-- ==== Defs.lean ====
def Pre_Kernel [hPre_user_in_table : Cert.Pre_user_in_table.Facts] (m : (ℓ : Loc Cert.Kernel.nD Cert.Kernel.τ Cert.Kernel.sig) → Buf (Elt Bits) ℓ) : Prop :=
  ∀ c : Dev Cert.Kernel.nD,
    (Cert.Pre_user_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_user_in_table : Cert.Pre_user_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_user_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_user_in_table [hPre_user_in_table : Cert.Pre_user_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_user_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_user_in_table : Cert.Pre_user_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_user_in_table : Cert.Pre_user_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_user_in_table [hReferenceIdeal : Cert.ReferenceIdeal.Facts] [hPre_user_in_table : Cert.Pre_user_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_user_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_user_in_table : Cert.Pre_user_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_user_in_table : Cert.Pre_user_in_table.Facts),
    quiescent_Kernel (hKernel := hKernel) (hPre_user_in_table := hPre_user_in_table)
    ∧ quiescent_KernelIdeal (hKernelIdeal := hKernelIdeal) (hPre_user_in_table := hPre_user_in_table)
    ∧ quiescent_ReferenceIdeal (hReferenceIdeal := hReferenceIdeal)
    ∧ quiescent_ReferenceIdeal_pre_user_in_table (hReferenceIdeal := hReferenceIdeal) (hPre_user_in_table := hPre_user_in_table)
    ∧ preserves_Kernel_KernelIdeal
    ∧ algebraic_KernelIdeal_ReferenceIdeal (hKernelIdeal := hKernelIdeal) (hReferenceIdeal := hReferenceIdeal) (hPre_user_in_table := hPre_user_in_table)
-- ==== Pre_user_in_table.lean ====
abbrev S16384 : Shape := ⟨1, ![16384]⟩
abbrev S1000000x16 : Shape := ⟨2, ![1000000, 16]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S1000000x16 .f32) (main_arg2 : FVec F S1000000x16 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Kernel.lean ====
abbrev S16384 : Shape := ⟨1, ![16384]⟩
abbrev S1000000x16 : Shape := ⟨2, ![1000000, 16]⟩
abbrev S32x4x128 : Shape := ⟨3, ![32, 4, 128]⟩
abbrev S32x4x128x16 : Shape := ⟨4, ![32, 4, 128, 16]⟩
abbrev S4x128 : Shape := ⟨2, ![4, 128]⟩
abbrev S4x128x16 : Shape := ⟨3, ![4, 128, 16]⟩
abbrev S_ : Shape := ⟨0, ![]⟩
abbrev S1x4x128 : Shape := ⟨3, ![1, 4, 128]⟩
abbrev S1x128x16 : Shape := ⟨3, ![1, 128, 16]⟩
abbrev S128x16 : Shape := ⟨2, ![128, 16]⟩
abbrev S1x128 : Shape := ⟨2, ![1, 128]⟩
abbrev S128 : Shape := ⟨1, ![128]⟩
abbrev S1x4x128x16 : Shape := ⟨4, ![1, 4, 128, 16]⟩
abbrev S16384x16 : Shape := ⟨2, ![16384, 16]⟩

abbrev nBuf : Table → Nat
  | .hbm => 6
  | .local .scVector .vmem => 2
  | _ => 0

abbrev bufTy : (tb : Table) → Fin (nBuf tb) → BufTy
  | .hbm, ⟨0, _⟩ => ⟨S16384, .i32⟩
  | .hbm, ⟨1, _⟩ => ⟨S1000000x16, .f32⟩
  | .hbm, ⟨2, _⟩ => ⟨S1000000x16, .f32⟩
  | .hbm, ⟨3, _⟩ => ⟨S32x4x128, .i32⟩
  | .hbm, ⟨4, _⟩ => ⟨S32x4x128x16, .f32⟩
  | .hbm, ⟨5, _⟩ => ⟨S16384x16, .f32⟩
  | .local .scVector .vmem, ⟨0, _⟩ => ⟨S4x128, .i32⟩
  | .local .scVector .vmem, ⟨1, _⟩ => ⟨S4x128x16, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r0 : BitVec 32 := 0#32
  let c0_i32_54_r0 : BitVec 32 := 0#32
  ![v1.toNat, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r1 : BitVec 32 := 0#32
  let c0_i32_54_r1 : BitVec 32 := 0#32
  let c0_i32_55_r1 : BitVec 32 := 0#32
  ![v1.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x16, .f32⟩
  | .hbm, ⟨2, _⟩ => ⟨S1000000x16, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x16, .f32⟩
  | .hbm, ⟨22, _⟩ => ⟨S16384x16, .i1⟩
  | .hbm, ⟨23, _⟩ => ⟨S_, .f32⟩
  | .hbm, ⟨24, _⟩ => ⟨S16384x16, .f32⟩
  | .hbm, ⟨25, _⟩ => ⟨S16384x16, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩

abbrev nD : Nat := 1
abbrev τ : Topo := Topo.v7x

variable {F : FTy → Type} [FloatOps F]
-- ==== Proof.Streams.lean ====
/-
  SEVERAL INDIRECT GATHERS IN FLIGHT ON ONE DMA SEMAPHORE.

  A tile that starts a few indirect gathers on one semaphore and only then waits for them learns nothing at any wait
  but the last: the counter may reach one gather's amount on rows of several. So the gathers are taken together as ONE
  counted batch whose members are their ROWS. Every row is worth the same number of units; the batch is allocated with
  what each row delivers, a gather of `o` rows issues the batch's next `o` members, and each wait takes the units of
  one gather's rows. The last wait hands back every row of every gather.

  `rowOut` is what one row delivers: its row of the destination written, its piece of the source's share, and the entry
  of the offset list it read. `gather_into_batch` is the rule of the issue, `rowOut_join` puts one gather's rows
  together again.
-/
module

public import Idealize.ShloMosaic.Lib.Batch
public import Idealize.ShloMosaic.Lib.SparseCore.Stream

@[expose] public section

noncomputable section

namespace Cert.Proof.Streams

open Idealize.ShloMosaic
open Idealize.ShloMosaic.SparseCore
open Idealize.ShloMosaic.Transfers (Batch batchBody pending)
open Idealize.SL
open Idealize.SL.BI (sProp Storable bigSep)
open scoped Idealize.SL.BI
open Idealize.SL.BI.BIBase Idealize.SL.BI.Laws Idealize.SL.Sem Idealize.SL.ProofMode
open Idealize.SL.RA

/-! ## The members not yet issued, a block at a time -/

section Pending

variable {M : Type} [URA M] {n : ℕ}

/-- The members from `j` on are the next `o` of them and those from `j + o` on. -/
theorem pending_block {j o : ℕ} (h : j + o ≤ n) :
    pending (n := n) j
      = (Finset.univ.image fun k : Fin o => (⟨j + k.val, by omega⟩ : Fin n)) ∪ pending (j + o) := by
  ext t
  simp only [pending, Finset.mem_filter, Finset.mem_univ, true_and, Finset.mem_union, Finset.mem_image, Fin.ext_iff]
  constructor
  · intro ht
    by_cases hb : j + o ≤ t.val
    · exact .inr hb
    · exact .inl ⟨⟨t.val - j, by omega⟩, by change j + (t.val - j) = t.val; omega⟩
  · rintro (⟨k, hk⟩ | ht) <;> omega

/-- So a family held for the members from `j` on is the family at the next `o`, and the family from `j + o` on. -/
theorem bigSep_pending_block {j o : ℕ} (h : j + o ≤ n) (Φ : Fin n → sProp M) :
    bigSep (pending j) Φ
      = iprop(bigSep Finset.univ (fun k : Fin o => Φ ⟨j + k.val, by omega⟩) ∗ bigSep (pending (j + o)) Φ) := by
  have hd : Disjoint (Finset.univ.image fun k : Fin o => (⟨j + k.val, by omega⟩ : Fin n)) (pending (j + o)) := by
    rw [Finset.disjoint_left]
    simp only [pending, Finset.mem_filter, Finset.mem_univ, true_and, Finset.mem_image, Fin.ext_iff]
    rintro t ⟨k, hk⟩ ht
    have := k.isLt
    omega
  rw [pending_block h, BI.bigSep_union hd,
    BI.bigSep_image_of_injOn (fun a _ b _ hab => by simpa [Fin.ext_iff] using hab)]
  rfl

end Pending

/-! ## One gather's rows as members of a batch -/

variable {nD : Nat} {τ : Topo} {sig : RefSig} {Ix : Type} [DecidableEq Ix]
variable {F : FTy → Type} {Name : Type} [DecidableEq Name]
variable {U : Type} [URA U] {Lvl : Type}
variable {sp : Space} {s₀ s si : Shape} {e : EltTy} {a : Nat}

local notation "𝕄" => MT nD τ sig Ix (Elt F) Name U Lvl

section Rows

variable (c : Thread nD τ) (src : Memref sig c.2.kind sp s₀ e) (dst : Memref sig c.2.kind .vmem s e) (hg : s₀.Gathers a s)
variable (offs : Memref sig c.2.kind .vmem si .i32) (hn : si.numel = s.size hg.axis') (ho : 0 < s.size hg.axis')
variable (q qo : PosShare TreeShare) (fs : Buf (Elt F) (src.view.loc c)) (fd : Buf (Elt F) (dst.view.loc c)) (fo : Buf (Elt F) (offs.view.loc c))
variable (r : Fin (s.size hg.axis') → Fin (s₀.size hg.axis))

/-- The entry of the offset list that row `k` of the gather reads. -/
def entryOf (k : Fin (s.size hg.axis')) : si.Idx := si.rowMajor.symm (k.cast hn.symm)

/-- Every entry of the list is read by exactly one row. -/
theorem entryOf_bijective : Function.Bijective (entryOf hg hn) :=
  si.rowMajor.symm.bijective.comp (finCongr hn.symm).bijective

/-- What row `k` of a gather delivers when the rows named are `r`: row `k` of the destination written with row `r k`
    of the source, the entry of the list, and the row's piece of the source's share. -/
def rowOut (k : Fin (s.size hg.axis')) : sProp 𝕄 :=
  iprop(((dst.view.loc c ↦[(dst.view.slice (s.rowRect hg.axis' k)).set]{fullShare}
          ((dst.view.slice (s.rowRect hg.axis' k)).write (Elt F) fd (fun i => src.view.read (Elt F) fs (hg.rowIdx (r k) i)) Finset.univ))
      ∗ (offs.view.loc c ↦[{offs.view.emb (entryOf hg hn k)}]{qo} fo))
    ∗ (src.view.loc c ↦[src.view.set]{pieceOf q _ ho k} fs))

/-- A row's delivery is made of elements held, so a batch may be allocated with it. -/
instance rowOut_storable (k : Fin (s.size hg.axis')) :
    Storable (upEmb : UEmb _ 𝕄) (rowOut c src dst hg offs hn ho q qo fs fd fo r k) := by
  unfold rowOut; infer_instance

/-- All the rows of one gather together: the destination written with the gather's payload, and the source's and the
    list's shares whole again. -/
theorem rowOut_join :
    (bigSep Finset.univ (rowOut c src dst hg offs hn ho q qo fs fd fo r) : sProp 𝕄)
      ⊢ iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) := by
  let w : (k : Fin (s.size hg.axis')) → (s.rowShape hg.axis').Idx → Elt F e := fun k i => src.view.read (Elt F) fs (hg.rowIdx (r k) i)
  have hW : ∀ k i, w k i
      = gatherPayload hg (src.view.read (Elt F) fs) r ((s.rowRect hg.axis' k).emb i) := fun k i => by
    unfold gatherPayload; rw [Shape.Gathers.idx_rowRect_emb]
  have hd : (bigSep Finset.univ fun k => (dst.view.loc c ↦[(dst.view.slice (s.rowRect hg.axis' k)).set]{fullShare}
        ((dst.view.slice (s.rowRect hg.axis' k)).write (Elt F) fd (fun i => src.view.read (Elt F) fs (hg.rowIdx (r k) i)) Finset.univ)) : sProp 𝕄)
      ⊢ (dst.view.loc c ↦[dst.view.set]{fullShare}
          (dst.view.write (Elt F) fd (gatherPayload hg (src.view.read (Elt F) fs) r) Finset.univ)) :=
    pointsTo_rows_write c dst.view hg.axis' fd w _ hW
  unfold rowOut
  rw [BI.bigSep_sep', BI.bigSep_sep', ← pointsTo_piecesOf src.view.set fs ho q,
    ← pointsTo_entries c offs.view (entryOf hg hn) (entryOf_bijective hg hn) qo fo]
  iintro ⟨⟨Hd, Ho⟩, Hs⟩
  isplitl [Hd]
  · iapply hd $$ Hd
  · isplitl [Hs] <;> iassumption

end Rows

variable [Preorder Lvl] {Λ : Labels} {α : Type} {Q : α → sProp (MT nD τ sig Ix (Elt F) Name U Lvl)}
variable {defs : Defs nD τ sig (Elt F) Λ} (EC : UEmb Counters (MT nD τ sig Ix (Elt F) Name U Lvl)) (𝒱 : Variants) (c : Thread nD τ) (bd : Option 𝒱.V)

/-- THE ISSUE of a gather whose rows are the next members of a batch. The tile holds a share of the source, the
    destination outright, a share of the offset list whose words are all in range (`hin`), and the batch with `j`
    members issued and no more consumed than issued (`hu`); every row is worth the batch's `N` units (`hN`), and what
    row `k` delivers is what the batch expects of member `j + k` (`hD`). It continues with the batch at
    `j + o` members issued, `o` being the gather's number of rows. -/
theorem gather_into_batch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u o : ℕ} (ι : Ix) (N : ℕ) (ho : 0 < s.size hg.axis') (hso : s.size hg.axis' = o)
    (hN : ∀ t, (dst.slice (s.rowRect hg.axis' t) (s.stride_rowRect hg.axis' t)).view.dmaCredit = N)
    (hin : ∀ x, (offs.view.read (Elt F) fo x).toNat < s₀.size hg.axis)
    (hj : j + o ≤ n) (hu : u ≤ j * N)
    (hD : ∀ t : Fin (s.size hg.axis'), rowOut c src dst hg offs hn ho q qo fs fd fo (rows (offs.view.read (Elt F) fo) hn hin) t
      ⊢ D ⟨j + t.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + o) u -∗ wp frame (wpE defs 𝒱 c bd) Set.univ (k ⟨⟩) Q)
          -∗ wp frame (wpE defs 𝒱 c bd) Set.univ (enqueueIndirectGather hp src dst hg offs hn sem hsrc he hsp hr >>= k) Q) := by
  subst hso
  rw [enqueueIndirectGather_bind]
  let S : Stream nD τ sig (Elt F) :=
    Stream.issued c offs.view hn sem (fun t w => (rowOf (s₀.size hg.axis) w).map (gatherRow c src dst hg sem hsrc he hsp hr t)) 0
  let r : Fin (s.size hg.axis') → Fin (s₀.size hg.axis) := rows (offs.view.read (Elt F) fo) hn hin
  let rd : Fin (s.size hg.axis') → RowDma τ sig (Elt F) c.2 sem := fun t => gatherRow c src dst hg sem hsrc he hsp hr t (r t)
  -- the rows a list may name for one entry are worth the same, and the entry's word names row `r t`
  have hA : S.RowsAgree := by
    intro t x x' ρ ρ' h h'
    obtain ⟨_, _, rfl⟩ := Option.map_eq_some_iff.mp h
    obtain ⟨_, _, rfl⟩ := Option.map_eq_some_iff.mp h'
    rfl
  have hrd : ∀ t, S.row t (S.word fo t) = some (rd t) := fun t => by
    change (rowOf (s₀.size hg.axis) (offs.view.read (Elt F) fo (S.entry t))).map _ = _
    rw [rowOf_of_lt (hin _)]; rfl
  have hsum : ∑ t, (rd t).dst.view.dmaCredit = s.size hg.axis' * N := by
    rw [Finset.sum_congr rfl fun t _ => (hN t : (rd t).dst.view.dmaCredit = N)]
    simp
  unfold Batch
  iintro ⟨Hs, Hd, Ho, ⟨%γ, %γ₀, %κ, #Hinv, HI, H0, Hcred⟩⟩ Hk
  ihave HI' := (Entails.of_eq (bigSep_pending_block hj fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view S.entry (entryOf_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · -- each entry of the list, and behind it what its row needs
    have hrow : ∀ t : Fin (s.size hg.axis'), iprop(inv κ (batchBody EC (c, SemLoc.dma sem) N D γ γ₀)
          ∗ ((((dst.view.loc c ↦[(dst.view.slice (s.rowRect hg.axis' t)).set]{fullShare} fd) ∗ S.heldEntry qo fo t)
          ∗ (src.view.loc c ↦[src.view.set]{pieceOf q _ ho t} fs)) ∗ count EC (γ ⟨j + t.val, by omega⟩) 0))
        ⊢ iprop(S.heldEntry qo fo t ∗ (S.heldEntry qo fo t -∗ rowRes c (rd t))) := fun t => by
      iintro ⟨#Hinv, ⟨⟨Hr, He⟩, Hsq⟩, Hγt⟩
      isplitl [He]; · iexact He
      iintro He
      unfold rowRes
      iexists pieceOf q _ ho t, fs, iprop((dst.view.loc c ↦[(dst.view.slice (s.rowRect hg.axis' t)).set]{fullShare}
          ((dst.view.slice (s.rowRect hg.axis' t)).write (Elt F) fd (fun i => src.view.read (Elt F) fs (hg.rowIdx (r t) i)) Finset.univ))
        ∗ S.heldEntry qo fo t)
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · have hNt : (rd t).dst.view.amount (.dma sem) = N := hN t
        rw [hNt]
        iapply (Transfers.batch_creditUpdate EC (N := N) (D := D) (γ := γ) (γ₀ := γ₀) ⟨j + t.val, by omega⟩ (hD t))
        isplitr; · iexact Hinv
        iexact Hγt
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun t _ => hrow t)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.Streams

end
-- ==== Proof.Windows.lean ====
/-
  THE PIECES OF THE ARRAYS THAT ONE TILE MOVES, by coordinates.

  Tile `w` of the 32 fetches row `w` of the index array (4 lists of 128 indices), gathers list `j`'s rows of the table
  into quarter `j` of its row buffer, and writes the whole buffer to block `w` of the output. Here are those windows, the
  elements each of them covers, and the values that move through them: `lists` is what the fetch lands, `rowsOf` what
  the gathers leave in the row buffer, `lookup` what the output holds in the end.
-/
module

public import proofs.«01_k».proof.Defs
public import proofs.«01_k».proof.Proof.Streams
public import Idealize.ShloMosaic.Lib.ValueIdx
public import Idealize.ShloMosaic.Lib.ValueLayout
public import Idealize.ShloMosaic.Lib.VecWindow
public import proofs.«01_k».proof.Proof.Gen.KernelIdeal

@[expose] public section

noncomputable section

namespace Cert.Proof.Windows

open Cert.KernelIdeal Cert.KernelIdeal.Gen
open Idealize.ShloMosaic Idealize.SL.Sem
open Idealize.ShloMosaic.ValueIdx
open Idealize.ShloMosaic.SparseCore (gatherPayload rows)

variable {F : FTy → Type}

/-! ## The windows -/

/-- The index array, the table and the output as a tile names them, and the tile's two scratch buffers. -/
abbrev iV : Memref sig .scVector .hbm S32x4x128 .i32 := Memref.whole main_v0_scv
abbrev tV : Memref sig .scVector .hbm S1000000x16 .f32 := Memref.whole main_arg1_scv
abbrev oV : Memref sig .scVector .hbm S32x4x128x16 .f32 := Memref.whole main_v1_scv
abbrev sV : Memref sig .scVector .vmem S4x128 .i32 := Memref.whole cc0_scratch0
abbrev rV : Memref sig .scVector .vmem S4x128x16 .f32 := Memref.whole cc0_scratch1

theorem tile_lt (L : grid0.Coords) : 2 * (L 1).val + (L 0).val < 32 := by
  have h0 : (L 0).val < 2 := (L 0).isLt
  have h1 : (L 1).val < 16 := (L 1).isLt
  omega

/-- The number of the tile at coordinates `L` (SparseCore, subcore): its subcore's twice, plus its SparseCore's. -/
def tileNo (L : grid0.Coords) : Fin 32 := ⟨2 * (L 1).val + (L 0).val, tile_lt L⟩

theorem rowsK_inb : ∀ j : Fin 4, ∀ a, (![j.val, 0, 0] : Fin 3 → Nat) a + S1x128x16.size a ≤ S4x128x16.size a := by decide
theorem listK_inb : ∀ j : Fin 4, ∀ a, (![j.val, 0] : Fin 2 → Nat) a + S1x128.size a ≤ S4x128.size a := by decide

/-- The tile's row of the index array. -/
abbrev iRowK (L : grid0.Coords) : Memref sig .scVector .hbm S4x128 .i32 :=
  (iV.slice (Rect.unit (s := S32x4x128) (k0_off1 L) S1x4x128.size (k0_off1_inb L)) (fun _ => rfl)).squeeze S4x128 squeezes_S1x4x128_S4x128
/-- The tile's block of the output. -/
abbrev oRowK (L : grid0.Coords) : Memref sig .scVector .hbm S4x128x16 .f32 :=
  (oV.slice (Rect.unit (s := S32x4x128x16) (k0_off2 L) S1x4x128x16.size (k0_off2_inb L)) (fun _ => rfl)).squeeze S4x128x16 squeezes_S1x4x128x16_S4x128x16
/-- The table, all of it. -/
abbrev tAllK : Memref sig .scVector .hbm S1000000x16 .f32 :=
  tV.slice (Rect.unit (s := S1000000x16) ![0, 0] S1000000x16.size inb_S1000000x16_S1000000x16_0_0) (fun _ => rfl)
/-- Quarter `j` of the row buffer. -/
abbrev rowsK (j : Fin 4) : Memref sig .scVector .vmem S128x16 .f32 :=
  (rV.slice (Rect.unit (s := S4x128x16) ![j.val, 0, 0] S1x128x16.size (rowsK_inb j)) (fun _ => rfl)).squeeze S128x16 squeezes_S1x128x16_S128x16
/-- List `j` of the index buffer. -/
abbrev listK (j : Fin 4) : Memref sig .scVector .vmem S128 .i32 :=
  (sV.slice (Rect.unit (s := S4x128) ![j.val, 0] S1x128.size (listK_inb j)) (fun _ => rfl)).squeeze S128 squeezes_S1x128_S128

/-! ## Their elements -/

theorem emb_iRowK (L : grid0.Coords) (y : S4x128.Idx) : (iRowK L).view.emb y = ix3 (tileNo L) (y 0) (y 1) := by
  show (Rect.unit (s := S32x4x128) (k0_off1 L) S1x4x128.size (k0_off1_inb L)).emb (Shape.reshapeEquiv squeezes_S1x4x128_S4x128.numel_eq y) = _
  rw [Shape.reshapeEquiv_cons_one (d := ![4, 128])]
  funext a; apply Fin.ext
  rw [Rect.emb_apply]
  simp only [Rect.unit, k0_off1_eq]
  match a with
  | 0 => simp [tileNo, Fin.cons]; rfl
  | 1 => simp [Fin.cons]; rfl
  | 2 => simp [Fin.cons]; rfl

theorem emb_oRowK (L : grid0.Coords) (y : S4x128x16.Idx) : (oRowK L).view.emb y = ix4 (tileNo L) (y 0) (y 1) (y 2) := by
  show (Rect.unit (s := S32x4x128x16) (k0_off2 L) S1x4x128x16.size (k0_off2_inb L)).emb (Shape.reshapeEquiv squeezes_S1x4x128x16_S4x128x16.numel_eq y) = _
  rw [Shape.reshapeEquiv_cons_one (d := ![4, 128, 16])]
  funext a; apply Fin.ext
  rw [Rect.emb_apply]
  simp only [Rect.unit, k0_off2_eq]
  match a with
  | 0 => simp [tileNo, Fin.cons]; rfl
  | 1 => simp [Fin.cons]; rfl
  | 2 => simp [Fin.cons]; rfl
  | 3 => simp [Fin.cons]; rfl

theorem emb_rowsK (j : Fin 4) (y : S128x16.Idx) : (rowsK j).view.emb y = ix3 j (y 0) (y 1) := by
  show (Rect.unit (s := S4x128x16) ![j.val, 0, 0] S1x128x16.size (rowsK_inb j)).emb (Shape.reshapeEquiv squeezes_S1x128x16_S128x16.numel_eq y) = _
  rw [Shape.reshapeEquiv_cons_one (d := ![128, 16])]
  funext a; apply Fin.ext
  rw [Rect.emb_apply]
  match a with
  | 0 => simp [Rect.unit, Fin.cons]; rfl
  | 1 => simp [Rect.unit, Fin.cons]; rfl
  | 2 => simp [Rect.unit, Fin.cons]; rfl

theorem emb_listK (j : Fin 4) (y : S128.Idx) : (listK j).view.emb y = ix2 j (y 0) := by
  show (Rect.unit (s := S4x128) ![j.val, 0] S1x128.size (listK_inb j)).emb (Shape.reshapeEquiv squeezes_S1x128_S128.numel_eq y) = _
  rw [Shape.reshapeEquiv_cons_one (d := ![128])]
  funext a; apply Fin.ext
  rw [Rect.emb_apply]
  match a with
  | 0 => simp [Rect.unit, Fin.cons]; rfl
  | 1 => simp [Rect.unit, Fin.cons]; rfl

theorem emb_tAllK (y : S1000000x16.Idx) : tAllK.view.emb y = y := Rect.emb_unit_full (s := S1000000x16) (off := ![0, 0]) inb_S1000000x16_S1000000x16_0_0 y

/-- The elements of the index array's row `w`, of the output's block `w`, of a row buffer's quarter `j` and of an index
    buffer's list `j`: those whose first coordinate is that number. -/
def iSet (w : Fin 32) : Finset S32x4x128.Idx := Finset.univ.filter fun x => (x 0).val = w.val
def oSet (w : Fin 32) : Finset S32x4x128x16.Idx := Finset.univ.filter fun x => (x 0).val = w.val
def rSet (j : Fin 4) : Finset S4x128x16.Idx := Finset.univ.filter fun x => (x 0).val = j.val
def sSet (j : Fin 4) : Finset S4x128.Idx := Finset.univ.filter fun x => (x 0).val = j.val

theorem set_iRowK (L : grid0.Coords) : (iRowK L).view.set = iSet (tileNo L) := by
  ext x
  simp only [View.set, Finset.mem_map, Finset.mem_univ, true_and, iSet, Finset.mem_filter]
  constructor
  · rintro ⟨y, rfl⟩; rw [emb_iRowK]
  · intro h; exact ⟨ix2 (x 1) (x 2), (emb_iRowK _ _).trans (by rw [eq_ix3 x]; congr 1; exact Fin.ext h.symm)⟩

theorem set_oRowK (L : grid0.Coords) : (oRowK L).view.set = oSet (tileNo L) := by
  ext x
  simp only [View.set, Finset.mem_map, Finset.mem_univ, true_and, oSet, Finset.mem_filter]
  constructor
  · rintro ⟨y, rfl⟩; rw [emb_oRowK]
  · intro h; exact ⟨ix3 (x 1) (x 2) (x 3), (emb_oRowK _ _).trans (by rw [eq_ix4 x]; congr 1; exact Fin.ext h.symm)⟩

theorem set_rowsK (j : Fin 4) : (rowsK j).view.set = rSet j := by
  ext x
  simp only [View.set, Finset.mem_map, Finset.mem_univ, true_and, rSet, Finset.mem_filter]
  constructor
  · rintro ⟨y, rfl⟩; rw [emb_rowsK]
  · intro h; exact ⟨ix2 (x 1) (x 2), (emb_rowsK _ _).trans (by rw [eq_ix3 x]; congr 1; exact Fin.ext h.symm)⟩

theorem set_listK (j : Fin 4) : (listK j).view.set = sSet j := by
  ext x
  simp only [View.set, Finset.mem_map, Finset.mem_univ, true_and, sSet, Finset.mem_filter]
  constructor
  · rintro ⟨y, rfl⟩; rw [emb_listK]
  · intro h; exact ⟨ix1 (x 1), (emb_listK _ _).trans (by rw [eq_ix2 x]; congr 1; exact Fin.ext h.symm)⟩

theorem set_tAllK : tAllK.view.set = Finset.univ := by
  ext x
  simp only [View.set, Finset.mem_map, Finset.mem_univ, true_and, iff_true]
  exact ⟨x, emb_tAllK x⟩

/-- Sets given by the value of one function are disjoint for different values, and the values' sets cover. -/
theorem fibre_disjoint {X : Type} [Fintype X] [DecidableEq X] {n : ℕ} (f : X → ℕ) (s : Finset (Fin n)) :
    ∀ i ∈ s, ∀ j ∈ s, i ≠ j → Disjoint (Finset.univ.filter fun x => f x = i.val) (Finset.univ.filter fun x => f x = j.val) := by
  intro i _ j _ h
  rw [Finset.disjoint_left]
  intro x hi hj
  exact h (Fin.ext ((Finset.mem_filter.mp hi).2.symm.trans (Finset.mem_filter.mp hj).2))
theorem fibre_cover {X : Type} [Fintype X] [DecidableEq X] {n : ℕ} (f : X → ℕ) (hf : ∀ x, f x < n) :
    ((Finset.univ : Finset (Fin n)).biUnion fun i => Finset.univ.filter fun x => f x = i.val) = Finset.univ := by
  ext x
  simp only [Finset.mem_biUnion, Finset.mem_univ, Finset.mem_filter, true_and, iff_true]
  exact ⟨⟨f x, hf x⟩, rfl⟩

/-! ## The values -/

/-- The table row an index word names: the word's value, kept within the table. -/
def rowOfWord (v : BitVec 32) : Fin 1000000 := ⟨min v.toNat 999999, by omega⟩

/-- What a tile's fetch lands in its index buffer: its row of the index array. -/
def lists (fi : S32x4x128.Idx → Elt F .i32) (w : Fin 32) : S4x128.Idx → Elt F .i32 := fun y => fi (ix3 w (y 0) (y 1))

/-- What the gathers leave in the row buffer when the index buffer holds `fo`: at `(j, k, ·)` the table row named by the
    word at `(j, k)`. -/
def rowsOf (ft : S1000000x16.Idx → Elt F .f32) (fo : S4x128.Idx → Elt F .i32) : S4x128x16.Idx → Elt F .f32 :=
  fun x => ft (ix2 (rowOfWord (fo (ix2 (x 0) (x 1)))) (x 2))

/-- What the output holds in the end: at `(w, j, k, ·)` the table row named by the index array's word at `(w, j, k)`. -/
def lookup (ft : S1000000x16.Idx → Elt F .f32) (fi : S32x4x128.Idx → Elt F .i32) : S32x4x128x16.Idx → Elt F .f32 :=
  fun x => ft (ix2 (rowOfWord (fi (ix3 (x 0) (x 1) (x 2)))) (x 3))

theorem read_iRowK (L : grid0.Coords) (fi : S32x4x128.Idx → Elt F .i32) :
    (iRowK L).view.read (Elt F) fi = lists fi (tileNo L) := by
  funext y
  rw [View.read_apply, emb_iRowK]; rfl

theorem read_listK (j : Fin 4) (fo : S4x128.Idx → Elt F .i32) (y : S128.Idx) :
    (listK j).view.read (Elt F) fo y = fo (ix2 j (y 0)) := by
  rw [View.read_apply, emb_listK]; rfl

/-- The words of a tile's lists are within the table when the index array's are. -/
theorem lists_lt {fi : S32x4x128.Idx → Elt F .i32} (hfi : ∀ x, (fi x : BitVec 32).toNat < 1000000) (w : Fin 32) (y : S4x128.Idx) :
    (lists fi w y : BitVec 32).toNat < 1000000 := hfi _

/-- The list of the gather's `k`-th row is at coordinate `k`. -/
theorem rowMajor_symm_S128 (k : Fin S128.numel) : ((S128.rowMajor.symm k) 0).val = k.val := by
  have h := S128.rowMajor.apply_symm_apply k
  have h' := congrArg Fin.val h
  rwa [Shape.rowMajor_val_one] at h'

/-- THE GATHER'S VALUE. Quarter `j` of the row buffer, written with what the gather of list `j` reads of the table, holds
    what `rowsOf` says. -/
theorem gathered (j : Fin 4) (ft : S1000000x16.Idx → Elt F .f32) (fo : S4x128.Idx → Elt F .i32) (fr : S4x128x16.Idx → Elt F .f32)
    (hin : ∀ x, ((listK j).view.read (Elt F) fo x : BitVec 32).toNat < S1000000x16.size gathers_S1000000x16_S128x16.axis)
    (x : S4x128x16.Idx) (hx : x ∈ (rowsK j).view.set) :
    (rowsK j).view.write (Elt F) fr (gatherPayload gathers_S1000000x16_S128x16 (tAllK.view.read (Elt F) ft)
        (rows ((listK j).view.read (Elt F) fo) rfl hin)) Finset.univ x = rowsOf ft fo x := by
  obtain ⟨y, -, rfl⟩ := Finset.mem_map.mp hx
  rw [View.write_emb_of_mem _ _ (Finset.mem_univ y), emb_rowsK]
  show ft (tAllK.view.emb (gathers_S1000000x16_S128x16.idx (rows ((listK j).view.read (Elt F) fo) rfl hin) y)) = _
  rw [emb_tAllK]
  unfold rowsOf
  congr 1
  funext a; apply Fin.ext
  match a with
  | ⟨0, h0⟩ =>
    have e := Shape.Gathers.idx_axis gathers_S1000000x16_S128x16 (rows ((listK j).view.read (Elt F) fo) rfl hin) y
    refine (congrArg Fin.val e).trans ?_
    show ((listK j).view.read (Elt F) fo (S128.rowMajor.symm _) : BitVec 32).toNat = min (fo (ix2 j (y 0)) : BitVec 32).toNat 999999
    have hk : (S128.rowMajor.symm (Fin.cast rfl (y 0))) 0 = y 0 := Fin.ext (rowMajor_symm_S128 _)
    have hlt := hin (S128.rowMajor.symm (Fin.cast rfl (y 0)))
    rw [read_listK, hk] at hlt
    rw [read_listK]
    have hlt' : (fo (ix2 j (y 0)) : BitVec 32).toNat < 1000000 := hlt
    refine Eq.trans (congrArg (fun z => (fo (ix2 j z) : BitVec 32).toNat) hk) ?_
    show (fo (ix2 j (y 0)) : BitVec 32).toNat = _
    omega
  | ⟨1, h1⟩ =>
    exact Shape.Gathers.idx_of_ne gathers_S1000000x16_S128x16 _ y ⟨1, h1⟩ Nat.one_ne_zero

/-- THE WRITE-OUT'S VALUE. The tile's block of the output, written with the gathered rows of the tile's lists, holds what
    `lookup` says. -/
theorem written (L : grid0.Coords) (ft : S1000000x16.Idx → Elt F .f32) (fi : S32x4x128.Idx → Elt F .i32) (fo : S32x4x128x16.Idx → Elt F .f32)
    (x : S32x4x128x16.Idx) (hx : x ∈ (oRowK L).view.set) :
    (oRowK L).view.write (Elt F) fo (rowsOf ft (lists fi (tileNo L))) Finset.univ x = lookup ft fi x := by
  obtain ⟨y, -, rfl⟩ := Finset.mem_map.mp hx
  rw [View.write_emb_of_mem _ _ (Finset.mem_univ y), emb_oRowK]
  rfl

end Cert.Proof.Windows

end
-- ==== Proof.Tile.lean ====
/-
  ONE TILE'S TASK, at symbolic coordinates and with the values it moves.

  The tile fetches its four lists of indices, starts four indirect gathers on one DMA semaphore, waits for them one after
  the other, and writes the row buffer out to its block of the output. The four gathers' 512 rows are one batch
  (Streams.lean): nothing is known of the row buffer until the fourth wait, which hands every row back. `tile_body` says
  that the tile ends with its block of the output at `lookup` of the table and the index array, everything else it was
  given unchanged, and its semaphores at zero.
-/
module

public import proofs.«01_k».proof.Proof.Windows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Tile

open Cert.KernelIdeal Cert.KernelIdeal.Gen
open Cert.Proof.Windows Cert.Proof.Streams
open Idealize.ShloMosaic
open Idealize.ShloMosaic.SparseCore (S V gatherPayload rows)
open Idealize.ShloMosaic.SparseCore.Cfg (HIx Pay ownBufs ownSems0 ownCells ownRefs mem_ownCells mem_ownRefs)
open Idealize.ShloMosaic.Transfers (Batch)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state, as the launch theorem sees them -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-- The arrays in memory, of one device: the users, the table, the item table, the index array, the gathered rows and the
    result. -/
abbrev uLoc (d : Dev nD) : Loc nD τ sig := (SparseCore.T d).loc main_arg0
abbrev tLoc (d : Dev nD) : Loc nD τ sig := (SparseCore.T d).loc main_arg1
abbrev bLoc (d : Dev nD) : Loc nD τ sig := (SparseCore.T d).loc main_arg2
abbrev iLoc (d : Dev nD) : Loc nD τ sig := (SparseCore.T d).loc main_v0
abbrev oLoc (d : Dev nD) : Loc nD τ sig := (SparseCore.T d).loc main_v1
abbrev zLoc (d : Dev nD) : Loc nD τ sig := (SparseCore.T d).loc main_v2

/-- Tile `w`'s share of the table, which every tile reads: one of 32 pieces. -/
abbrev tq (w : Fin 32) : PosShare TreeShare := pieceOf fullShare 32 (by decide) w

abbrev iRowPts (d : Dev nD) (fi : Buf (Elt F) (iLoc d)) (w : Fin 32) : sProp 𝕄 := iLoc d ↦[iSet w]{fullShare} fi
abbrev tShPts (d : Dev nD) (ft : Buf (Elt F) (tLoc d)) (w : Fin 32) : sProp 𝕄 := tLoc d ↦{tq w} ft
abbrev oRowPts (d : Dev nD) (f : Buf (Elt F) (oLoc d)) (w : Fin 32) : sProp 𝕄 := oLoc d ↦[oSet w]{fullShare} f

/-! ## The task's program -/

section Task

variable (d : Dev nD) (L : grid0.Coords)

abbrev cV (L : grid0.Coords) : Fin τ.nSC := (L 0).castLE hcore0
abbrev jV (L : grid0.Coords) : Fin τ.nSub := (L 1).castLE hsub0

variable [FloatOps F]

/-- The start of gather `j`: list `j`'s rows of the table into quarter `j` of the row buffer. -/
def startGather (j : Fin 4) : Prog (TpuEff nD τ sig (Elt F) Λ₀ (.scVector (cV L) (jV L))) PUnit :=
  SparseCore.enqueueIndirectGather rfl tAllK (rowsK j) gathers_S1000000x16_S128x16 (listK j) rfl cc0_scratch2.sem (View.wordExact_bits rfl) rfl (Or.inl rfl)

/-- The wait for gather `j`'s amount. -/
def awaitGather (j : Fin 4) : Prog (TpuEff nD τ sig (Elt F) Λ₀ (.scVector (cV L) (jV L))) PUnit :=
  SparseCore.waitIndirectGather cc0_scratch2.sem tAllK (rowsK j) (View.wordExact_bits rfl) ((View.wordExact_bits rfl).reshape _ _)

/-- The fetch of the tile's lists, and its wait. -/
def fetch : Prog (TpuEff nD τ sig (Elt F) Λ₀ (.scVector (cV L) (jV L))) PUnit := do
  Prog.lift (.enqueueDma (iRowK L) (.here sV) (.dma cc0_scoped0.sem) ((View.wordExact_bits rfl).reshape _ _) (Memref.isWhole_whole _).wordExact ⟨Or.inl rfl, trivial⟩)
  Prog.lift (.waitDma2 cc0_scoped0.sem (iRowK L) sV ((View.wordExact_bits rfl).reshape _ _) (Memref.isWhole_whole _).wordExact)

/-- The four gathers: all started, then all awaited. -/
def gathers : Prog (TpuEff nD τ sig (Elt F) Λ₀ (.scVector (cV L) (jV L))) PUnit := do
  startGather L 0
  startGather L 1
  startGather L 2
  startGather L 3
  awaitGather L 0
  awaitGather L 1
  awaitGather L 2
  awaitGather L 3

/-- The write-out of the rows, and its wait. -/
def writeOut : Prog (TpuEff nD τ sig (Elt F) Λ₀ (.scVector (cV L) (jV L))) PUnit := do
  Prog.lift (.enqueueDma rV (.here (oRowK L)) (.dma cc0_scoped1.sem) (Memref.isWhole_whole _).wordExact ((View.wordExact_bits rfl).reshape _ _) ⟨Or.inl rfl, trivial⟩)
  Prog.lift (.waitDma2 cc0_scoped1.sem rV (oRowK L) (Memref.isWhole_whole _).wordExact ((View.wordExact_bits rfl).reshape _ _))
  pure ⟨⟩

/-- The task. -/
def task : Prog (TpuEff nD τ sig (Elt F) Λ₀ (.scVector (cV L) (jV L))) PUnit := do
  fetch L
  gathers L
  writeOut L

/-- The printed body is the task. -/
theorem body_eq_task :
    cc0_body (F := F) L iV (Memref.isWhole_whole _) tV (Memref.isWhole_whole _) oV (Memref.isWhole_whole _)
      sV (Memref.isWhole_whole _) rV (Memref.isWhole_whole _) cc0_scratch2 cc0_scoped0 cc0_scoped1 = task L := rfl

/-! ## The gathers as one batch -/

/-- The units of one row. -/
abbrev rowUnits : ℕ := (Ref.dmaCredit (sig := sig) cc0_scratch1 (S128x16.rowShape 0) .f32)

theorem rowUnits_eq (j : Fin 4) (t : Fin (S128x16.size gathers_S1000000x16_S128x16.axis')) :
    ((rowsK j).slice (S128x16.rowRect gathers_S1000000x16_S128x16.axis' t) (S128x16.stride_rowRect gathers_S1000000x16_S128x16.axis' t)).view.dmaCredit = rowUnits := rfl

theorem quarterUnits (j : Fin 4) : (rowsK j).view.dmaCredit = 128 * rowUnits := by decide +revert

theorem rowUnits_pos : 0 < rowUnits := by decide

/-- The tile's thread. -/
abbrev thr : Thread nD τ := V d (cV L) (jV L)

variable (ft : Buf (Elt F) (tLoc d)) (fr : Buf (Elt F) ((thr d L).loc cc0_scratch1)) (fo : Buf (Elt F) ((thr d L).loc cc0_scratch0))

/-- The words of the index buffer name rows of the table. -/
abbrev InTable : Prop := ∀ y : S4x128.Idx, (fo y : BitVec 32).toNat < 1000000

variable {L d fo} in
theorem InTable.list (h : InTable d L fo) (j : Fin 4) :
    ∀ x, ((listK j).view.read (Elt F) fo x : BitVec 32).toNat < S1000000x16.size gathers_S1000000x16_S128x16.axis :=
  fun x => (read_listK j fo x).symm ▸ h _

theorem rows_pos : 0 < S128x16.size gathers_S1000000x16_S128x16.axis' := by decide

/-- Gather `j`'s piece of the tile's share of the table. -/
abbrev gq (q : PosShare TreeShare) (j : Fin 4) : PosShare TreeShare := pieceOf q 4 (by decide) j

/-- What row `k` of gather `j` delivers. -/
abbrev gatherRowOut (q : PosShare TreeShare) (h : InTable d L fo) (j : Fin 4) (k : Fin 128) : sProp 𝕄 :=
  rowOut (thr d L) tAllK (rowsK j) gathers_S1000000x16_S128x16 (listK j) rfl rows_pos (gq q j) fullShare ft fr fo
    (rows ((listK j).view.read (Elt F) fo) rfl (h.list j)) k

/-- The batch's members: row `k` of gather `j` is member `128 j + k`. -/
def members (q : PosShare TreeShare) (h : InTable d L fo) (t : Fin (4 * 128)) : sProp 𝕄 :=
  gatherRowOut d L ft fr fo q h (finProdFinEquiv.symm t).1 (finProdFinEquiv.symm t).2

instance members_storable (q : PosShare TreeShare) (h : InTable d L fo) (t : Fin (4 * 128)) :
    Storable (upEmb : UEmb _ 𝕄) (members d L ft fr fo q h t) := by
  unfold members; exact rowOut_storable ..

theorem members_at (q : PosShare TreeShare) (h : InTable d L fo) (j : Fin 4) (k : Fin 128) (hlt : 128 * j.val + k.val < 4 * 128) :
    members d L ft fr fo q h ⟨128 * j.val + k.val, hlt⟩ = gatherRowOut d L ft fr fo q h j k := by
  have e : (⟨128 * j.val + k.val, hlt⟩ : Fin (4 * 128)) = finProdFinEquiv (j, k) := Fin.ext (Nat.add_comm _ _)
  unfold members
  rw [e, Equiv.symm_apply_apply]

theorem cover_rSet : (Finset.univ : Finset (Fin 4)).biUnion rSet = Finset.univ := fibre_cover (fun x : S4x128x16.Idx => (x 0).val) fun x => (x 0).isLt
theorem cover_sSet : (Finset.univ : Finset (Fin 4)).biUnion sSet = Finset.univ := fibre_cover (fun x : S4x128.Idx => (x 0).val) fun x => (x 0).isLt

/-- The row buffer is its quarters, and the index buffer its lists. -/
theorem rowBuf_quarters (f : Buf (Elt F) ((thr d L).loc cc0_scratch1)) :
    ((thr d L).loc cc0_scratch1 ↦{fullShare} f : sProp 𝕄) = bigSep Finset.univ fun j : Fin 4 => (thr d L).loc cc0_scratch1 ↦[rSet j]{fullShare} f := by
  refine Eq.trans ?_ (pointsTo_biUnion (ℓ := (thr d L).loc cc0_scratch1) (q := fullShare) (f := f) Finset.univ rSet (fibre_disjoint _ _))
  rw [cover_rSet]
theorem idxBuf_lists (f : Buf (Elt F) ((thr d L).loc cc0_scratch0)) :
    ((thr d L).loc cc0_scratch0 ↦{fullShare} f : sProp 𝕄) = bigSep Finset.univ fun j : Fin 4 => (thr d L).loc cc0_scratch0 ↦[sSet j]{fullShare} f := by
  refine Eq.trans ?_ (pointsTo_biUnion (ℓ := (thr d L).loc cc0_scratch0) (q := fullShare) (f := f) Finset.univ sSet (fibre_disjoint _ _))
  rw [cover_sSet]

/-- All members together: the row buffer at the rows the index buffer names, the share of the table and the index buffer. -/
theorem members_join (q : PosShare TreeShare) (h : InTable d L fo) :
    (bigSep Finset.univ (members d L ft fr fo q h) : sProp 𝕄)
      ⊢ iprop(((thr d L).loc cc0_scratch1 ↦{fullShare} rowsOf ft fo) ∗ (tLoc d ↦{q} ft) ∗ ((thr d L).loc cc0_scratch0 ↦{fullShare} fo)) := by
  have hj : ∀ j : Fin 4, (bigSep Finset.univ (fun k : Fin 128 => gatherRowOut d L ft fr fo q h j k) : sProp 𝕄)
      ⊢ iprop(((thr d L).loc cc0_scratch1 ↦[rSet j]{fullShare} rowsOf ft fo) ∗ (tLoc d ↦{gq q j} ft) ∗ ((thr d L).loc cc0_scratch0 ↦[sSet j]{fullShare} fo)) := by
    intro j
    refine (rowOut_join (thr d L) tAllK (rowsK j) gathers_S1000000x16_S128x16 (listK j) rfl rows_pos (gq q j) fullShare ft fr fo
      (rows ((listK j).view.read (Elt F) fo) rfl (h.list j))).trans ?_
    rw [pointsTo_congr fun x hx => gathered j ft fo fr (h.list j) x hx, set_rowsK, set_listK, set_tAllK]
  have e : (bigSep Finset.univ (members d L ft fr fo q h) : sProp 𝕄)
      = bigSep Finset.univ fun j : Fin 4 => bigSep Finset.univ fun k : Fin 128 => gatherRowOut d L ft fr fo q h j k := by
    rw [bigSep_univ_equiv (finProdFinEquiv (m := 4) (n := 128)), bigSep_univ_prod]
    refine bigSep_congr fun j _ => bigSep_congr fun k _ => ?_
    unfold members; rw [Equiv.symm_apply_apply]
  rw [e]
  refine (BI.bigSep_mono fun j _ => hj j).trans ?_
  rw [BI.bigSep_sep', BI.bigSep_sep', ← pointsTo_piecesOf Finset.univ ft (by decide) q, ← rowBuf_quarters, ← idxBuf_lists]
  exact BI.Entails.refl _

/-- What the gathers take, before they start: the row buffer, the share of the table and the index buffer, by gather. -/
theorem gathers_split (q : PosShare TreeShare) :
    iprop(((thr d L).loc cc0_scratch1 ↦{fullShare} fr) ∗ (tLoc d ↦{q} ft) ∗ ((thr d L).loc cc0_scratch0 ↦{fullShare} fo))
      ⊢ (bigSep Finset.univ fun j : Fin 4 => iprop((tAllK.view.loc (thr d L) ↦[tAllK.view.set]{gq q j} ft)
          ∗ ((rowsK j).view.loc (thr d L) ↦[(rowsK j).view.set]{fullShare} fr) ∗ ((listK j).view.loc (thr d L) ↦[(listK j).view.set]{fullShare} fo)) : sProp 𝕄) := by
  have hj : ∀ j : Fin 4, (iprop((tAllK.view.loc (thr d L) ↦[tAllK.view.set]{gq q j} ft)
        ∗ ((rowsK j).view.loc (thr d L) ↦[(rowsK j).view.set]{fullShare} fr) ∗ ((listK j).view.loc (thr d L) ↦[(listK j).view.set]{fullShare} fo)) : sProp 𝕄)
      = iprop((tLoc d ↦{gq q j} ft) ∗ ((thr d L).loc cc0_scratch1 ↦[rSet j]{fullShare} fr) ∗ ((thr d L).loc cc0_scratch0 ↦[sSet j]{fullShare} fo)) := by
    intro j; rw [set_rowsK, set_listK, set_tAllK]
  rw [bigSep_congr fun j _ => hj j, BI.bigSep_sep', BI.bigSep_sep', ← pointsTo_piecesOf Finset.univ ft (by decide) q, ← rowBuf_quarters, ← idxBuf_lists]
  iintro ⟨Hr, Ht, Hs⟩
  isplitl [Ht]; · iexact Ht
  isplitl [Hr]; · iexact Hr
  iexact Hs

/-- The start of gather `j`, as the batch's members from `128 j` on. -/
theorem wp_startGather (q : PosShare TreeShare) (h : InTable d L fo) (j : Fin 4)
    {k : PUnit → Prog (TpuEff nD τ sig (Elt F) Λ₀ (thr d L).2) PUnit} {Q : PUnit → sProp 𝕄} :
    iprop(((tAllK.view.loc (thr d L) ↦[tAllK.view.set]{gq q j} ft)
          ∗ ((rowsK j).view.loc (thr d L) ↦[(rowsK j).view.set]{fullShare} fr) ∗ ((listK j).view.loc (thr d L) ↦[(listK j).view.set]{fullShare} fo))
        ∗ Batch EC (thr d L) (.dma cc0_scratch2.sem) (default : HIx 1) rowUnits (members d L ft fr fo q h) (128 * j.val) 0)
      ⊢ iprop((Batch EC (thr d L) (.dma cc0_scratch2.sem) (default : HIx 1) rowUnits (members d L ft fr fo q h) (128 * j.val + 128) 0
            -∗ wp frame (wpE (defs₀ (F := F)) 𝒱₀ (thr d L) none) Set.univ (k ⟨⟩) Q)
          -∗ wp frame (wpE (defs₀ (F := F)) 𝒱₀ (thr d L) none) Set.univ (startGather L j >>= k) Q) := by
  iintro ⟨⟨Ht, Hr, Hl⟩, HB⟩
  iapply (gather_into_batch EC 𝒱₀ (thr d L) none (src := tAllK) (dst := rowsK j)
    (hg := gathers_S1000000x16_S128x16) (offs := listK j) (hn := rfl) (default : HIx 1) rowUnits rows_pos rfl (rowUnits_eq j) (h.list j)
    (by omega) (Nat.zero_le _) (q := gq q j) (qo := fullShare) (fs := ft) (fd := fr) (fo := fo) (n := 4 * 128)
    (D := members d L ft fr fo q h) (j := 128 * j.val) (u := 0) (o := 128)
    fun t => Entails.of_eq (members_at d L ft fr fo q h j t _).symm)
  isplitl [Ht]; · iexact Ht
  isplitl [Hr]; · iexact Hr
  isplitl [Hl]; · iexact Hl
  iexact HB

/-- The wait for one gather's amount, when it is not the batch's last. -/
theorem wp_awaitGather {n : ℕ} {Dm : Fin n → sProp 𝕄} (j : Fin 4) {u i : ℕ} (hu : u + 128 * rowUnits ≤ rowUnits * i)
    {O : CellTallies nD τ sig (HIx 1)} {W : Waits sig (HIx 1)}
    {k : PUnit → Prog (TpuEff nD τ sig (Elt F) Λ₀ (thr d L).2) PUnit} {Q : PUnit → sProp 𝕄} :
    iprop(Batch EC (thr d L) (.dma cc0_scratch2.sem) (default : HIx 1) rowUnits Dm i u ∗ owes (thr d L) O W
        ∗ MayWait (thr d L) (.dma cc0_scratch2.sem) (default : HIx 1) O)
      ⊢ iprop((iprop(Batch EC (thr d L) (.dma cc0_scratch2.sem) (default : HIx 1) rowUnits Dm i (u + 128 * rowUnits)
              ∗ owes (thr d L) O (insert (SemLoc.dma cc0_scratch2.sem, (default : HIx 1)) W))
            -∗ wp frame (wpE (defs₀ (F := F)) 𝒱₀ (thr d L) none) Set.univ (k ⟨⟩) Q)
          -∗ wp frame (wpE (defs₀ (F := F)) 𝒱₀ (thr d L) none) Set.univ (awaitGather L j >>= k) Q) :=
  Transfers.wp_waitBatchMulO EC 𝒱₀ (thr d L) none (default : HIx 1) 128 (quarterUnits j) hu

/-- The last wait: every member back. -/
theorem wp_awaitLast {Dm : Fin (4 * 128) → sProp 𝕄} (j : Fin 4) {u : ℕ} (hu : u + 128 * rowUnits = rowUnits * (4 * 128))
    {O : CellTallies nD τ sig (HIx 1)} {W : Waits sig (HIx 1)}
    {k : PUnit → Prog (TpuEff nD τ sig (Elt F) Λ₀ (thr d L).2) PUnit} {Q : PUnit → sProp 𝕄} :
    iprop(Batch EC (thr d L) (.dma cc0_scratch2.sem) (default : HIx 1) rowUnits Dm (4 * 128) u ∗ owes (thr d L) O W
        ∗ MayWait (thr d L) (.dma cc0_scratch2.sem) (default : HIx 1) O)
      ⊢ iprop((iprop(bigSep Finset.univ Dm ∗ semVal (thr d L, .dma cc0_scratch2.sem) 0
              ∗ owes (thr d L) O (insert (SemLoc.dma cc0_scratch2.sem, (default : HIx 1)) W))
            -∗ wp frame (wpE (defs₀ (F := F)) 𝒱₀ (thr d L) none) Set.univ (k ⟨⟩) Q)
          -∗ wp frame (wpE (defs₀ (F := F)) 𝒱₀ (thr d L) none) Set.univ (awaitGather L j >>= k) Q) :=
  Transfers.wp_waitBatchAllO EC 𝒱₀ (thr d L) none (default : HIx 1) (quarterUnits j) rowUnits_pos hu

/-- Four things at once, one by one. -/
theorem bigSep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, bigSep_insert (by decide),
    bigSep_insert (by decide), bigSep_insert (by decide), bigSep_singleton]
  rfl

/-- THE GATHERS. From the row buffer, a share of the table, the index buffer with every word in the table and the
    semaphore at zero, the four gathers end with the row buffer at `rowsOf ft fo` and the rest as it was. -/
theorem wp_gathers (q : PosShare TreeShare) (h : InTable d L fo) {O : CellTallies nD τ sig (HIx 1)} {W : Waits sig (HIx 1)}
    {k : PUnit → Prog (TpuEff nD τ sig (Elt F) Λ₀ (thr d L).2) PUnit} {Q : PUnit → sProp 𝕄} :
    iprop(Transfers.MayWaits (thr d L) (default : HIx 1) O
        ∗ (((thr d L).loc cc0_scratch1 ↦{fullShare} fr) ∗ (tLoc d ↦{q} ft) ∗ ((thr d L).loc cc0_scratch0 ↦{fullShare} fo))
        ∗ semVal (thr d L, .dma cc0_scratch2.sem) 0 ∗ owes (thr d L) O W)
      ⊢ iprop((iprop((((thr d L).loc cc0_scratch1 ↦{fullShare} rowsOf ft fo) ∗ (tLoc d ↦{q} ft) ∗ ((thr d L).loc cc0_scratch0 ↦{fullShare} fo))
              ∗ semVal (thr d L, .dma cc0_scratch2.sem) 0 ∗ owes (thr d L) O (insert (SemLoc.dma cc0_scratch2.sem, (default : HIx 1)) W))
            -∗ wp frame (wpE (defs₀ (F := F)) 𝒱₀ (thr d L) none) Set.univ (k ⟨⟩) Q)
          -∗ wp frame (wpE (defs₀ (F := F)) 𝒱₀ (thr d L) none) Set.univ (gathers L >>= k) Q) := by
  unfold gathers
  simp only [Prog.bind_assoc]
  iintro ⟨#Hmw, HB, Hv, HO⟩ Hk
  ihave HB' := (gathers_split d L ft fr fo q) $$ HB
  ihave HB4 := (Entails.of_eq (bigSep_four _)) $$ HB'
  icases HB4 with ⟨H0, H1, H2, H3⟩
  imod (Transfers.batch_alloc' EC (thr d L) (sm := .dma cc0_scratch2.sem) (default : HIx 1) rowUnits (members d L ft fr fo q h)) $$ Hv with HB
  -- the four starts
  iapply (wp_startGather d L ft fr fo q h 0) $$ [H0 HB]; · isplitl [H0] <;> iassumption
  iintro HB
  iapply (wp_startGather d L ft fr fo q h 1) $$ [H1 HB]; · isplitl [H1] <;> iassumption
  iintro HB
  iapply (wp_startGather d L ft fr fo q h 2) $$ [H2 HB]; · isplitl [H2] <;> iassumption
  iintro HB
  iapply (wp_startGather d L ft fr fo q h 3) $$ [H3 HB]; · isplitl [H3] <;> iassumption
  iintro HB
  -- the first three waits
  iapply (wp_awaitGather d L 0 (n := 4 * 128) (i := 4 * 128) (u := 0) (Dm := members d L ft fr fo q h) (by omega)) $$ [HB HO]
  · isplitl [HB]; · iexact HB
    isplitl [HO]; · iexact HO
    iapply (Transfers.MayWaits.elim (SemLoc.dma cc0_scratch2.sem)) $$ Hmw
  iintro ⟨HB, HO⟩
  iapply (wp_awaitGather d L 1 (n := 4 * 128) (i := 4 * 128) (u := 0 + 128 * rowUnits) (Dm := members d L ft fr fo q h) (by omega)) $$ [HB HO]
  · isplitl [HB]; · iexact HB
    isplitl [HO]; · iexact HO
    iapply (Transfers.MayWaits.elim (SemLoc.dma cc0_scratch2.sem)) $$ Hmw
  iintro ⟨HB, HO⟩
  iapply (wp_awaitGather d L 2 (n := 4 * 128) (i := 4 * 128) (u := 0 + 128 * rowUnits + 128 * rowUnits) (Dm := members d L ft fr fo q h) (by omega)) $$ [HB HO]
  · isplitl [HB]; · iexact HB
    isplitl [HO]; · iexact HO
    iapply (Transfers.MayWaits.elim (SemLoc.dma cc0_scratch2.sem)) $$ Hmw
  iintro ⟨HB, HO⟩
  -- the last wait: every row is back
  iapply (wp_awaitLast d L 3 (u := 0 + 128 * rowUnits + 128 * rowUnits + 128 * rowUnits) (Dm := members d L ft fr fo q h) (by omega)) $$ [HB HO]
  · isplitl [HB]; · iexact HB
    isplitl [HO]; · iexact HO
    iapply (Transfers.MayWaits.elim (SemLoc.dma cc0_scratch2.sem)) $$ Hmw
  simp only [Finset.insert_idem]
  iintro ⟨HD, Hv, HO⟩
  ihave HD' := (members_join d L ft fr fo q h) $$ HD
  iapply Hk
  isplitl [HD']; · iexact HD'
  isplitl [Hv]; · iexact Hv
  iexact HO

/-- THE FETCH. The index buffer ends at the tile's lists. -/
theorem wp_fetch (fi : Buf (Elt F) (iLoc d)) (fs : Buf (Elt F) ((thr d L).loc cc0_scratch0)) {O : CellTallies nD τ sig (HIx 1)} {W : Waits sig (HIx 1)}
    {k : PUnit → Prog (TpuEff nD τ sig (Elt F) Λ₀ (thr d L).2) PUnit} {Q : PUnit → sProp 𝕄} :
    iprop(Transfers.MayWaits (thr d L) (default : HIx 1) O ∗ iRowPts d fi (tileNo L) ∗ ((thr d L).loc cc0_scratch0 ↦{fullShare} fs)
        ∗ semVal (thr d L, .dma cc0_scoped0.sem) 0 ∗ owes (thr d L) O W)
      ⊢ iprop((iprop(iRowPts d fi (tileNo L) ∗ ((thr d L).loc cc0_scratch0 ↦{fullShare} lists fi (tileNo L))
              ∗ semVal (thr d L, .dma cc0_scoped0.sem) 0 ∗ owes (thr d L) O (insert (SemLoc.dma cc0_scoped0.sem, (default : HIx 1)) W))
            -∗ wp frame (wpE (defs₀ (F := F)) 𝒱₀ (thr d L) none) Set.univ (k ⟨⟩) Q)
          -∗ wp frame (wpE (defs₀ (F := F)) 𝒱₀ (thr d L) none) Set.univ (fetch L >>= k) Q) := by
  unfold fetch
  iintro ⟨#Hmw, Hi, Hs, HsemA, HO⟩ Hk
  ihave Hi' := (Entails.of_eq (show (iRowPts d fi (tileNo L) : sProp 𝕄) = ((iRowK L).view.loc (thr d L) ↦[(iRowK L).view.set]{fullShare} fi) by rw [set_iRowK])) $$ Hi
  ihave Hs' := (Entails.of_eq (show ((thr d L).loc cc0_scratch0 ↦{fullShare} fs : sProp 𝕄) = (sV.view.loc (thr d L) ↦{fullShare} fs) from rfl)) $$ Hs
  sl_exec
  iapply Hk
  isplitl [Hi']
  · iapply (Entails.of_eq (show (iRowPts d fi (tileNo L) : sProp 𝕄) = ((iRowK L).view.loc (thr d L) ↦[(iRowK L).view.set]{fullShare} fi) by rw [set_iRowK]).symm); iexact Hi'
  isplitl [Hs']
  · iapply (Entails.of_eq (show (sV.view.loc (thr d L) ↦{fullShare} View.write (Elt F) sV.view fs (wp_fetch.sl.dma0 d L fi) Finset.univ : sProp 𝕄)
      = ((thr d L).loc cc0_scratch0 ↦{fullShare} lists fi (tileNo L)) by
        rw [View.write_whole_univ, show wp_fetch.sl.dma0 d L fi = (iRowK L).view.read (Elt F) fi from rfl, read_iRowK])); iexact Hs'
  isplitl [HsemA]; · iexact HsemA
  iexact HO

/-! ## The tile's own buffers and cells -/

/-- A DMA semaphore of the tile, as a cell. -/
abbrev cell (sem : DmaSem sig) : GSem nD τ sig := (thr d L, .dma sem)

theorem cell_own (sem : DmaSem sig) (h : (SemLoc.dma sem : SemLoc sig).isScoped .scVector = true) : cell d L sem ∈ ownCells (thr d L) :=
  mem_ownCells.mpr ⟨rfl, h⟩

theorem cell_ne {s s' : DmaSem sig} (h : s ≠ s') : cell d L s ≠ cell d L s' := fun e => h (SemLoc.dma.inj (Prod.mk.inj e).2)

/-- The tile's cells: the gathers' one, the fetch's, the write-out's, and the rest. -/
theorem ownSems0_tile :
    (ownSems0 (thr d L) : sProp 𝕄)
      = iprop(semVal (cell d L cc0_scratch2.sem) 0 ∗ semVal (cell d L cc0_scoped0.sem) 0 ∗ semVal (cell d L cc0_scoped1.sem) 0
          ∗ bigSep ((((ownCells (thr d L)).erase (cell d L cc0_scratch2.sem)).erase (cell d L cc0_scoped0.sem)).erase (cell d L cc0_scoped1.sem)) fun g => semVal g 0) := by
  unfold SparseCore.Cfg.ownSems0
  rw [SparseCore.bigSep_erase' (cell_own d L cc0_scratch2.sem (by decide)),
    SparseCore.bigSep_erase' (Finset.mem_erase.mpr ⟨cell_ne d L (by decide), cell_own d L cc0_scoped0.sem (by decide)⟩),
    SparseCore.bigSep_erase' (Finset.mem_erase.mpr ⟨cell_ne d L (by decide), Finset.mem_erase.mpr ⟨cell_ne d L (by decide), cell_own d L cc0_scoped1.sem (by decide)⟩⟩)]

/-- A buffer of the tile, among all buffers. -/
abbrev own (b : Ref sig .scVector) : DevRef τ sig := (Proc.scVector (cV L) (jV L)).devRef b

/-- The tile's buffers: the index buffer and the row buffer, at some contents, and the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase (own L cc0_scratch0)).erase (own L cc0_scratch1))
              fun b => iprop(∃ f, ((d, b) : Loc nD τ sig) ↦{fullShare} f)) := by
  unfold SparseCore.Cfg.ownBufs
  have h0 : own L cc0_scratch0 ∈ ownRefs (τ := τ) (.scVector (cV L) (jV L)) := SparseCore.Cfg.mem_ownRefs_of_owner rfl
  have h1 : own L cc0_scratch1 ∈ ownRefs (τ := τ) (.scVector (cV L) (jV L)) := SparseCore.Cfg.mem_ownRefs_of_owner rfl
  have hne : own L cc0_scratch1 ≠ own L cc0_scratch0 := fun e => absurd (Proc.devRef_injective _ e) (show (cc0_scratch1 : Ref sig .scVector) ≠ cc0_scratch0 by decide)
  refine (SparseCore.bigSep_erase' h0).trans ?_
  rw [SparseCore.bigSep_erase' (Finset.mem_erase.mpr ⟨hne, h1⟩)]

/-! ## The task -/

/-- What a tile is given and gives back: its row of the index array, its share of the table, its block of the output at
    contents `fz`. -/
abbrev goPay (fi : Buf (Elt F) (iLoc d)) (ft : Buf (Elt F) (tLoc d)) (fz : Buf (Elt F) (oLoc d)) (w : Fin 32) : sProp 𝕄 :=
  iprop(iRowPts d fi w ∗ tShPts d ft w ∗ oRowPts d fz w)

set_option maxHeartbeats 4000000 in
/-- THE TASK of the tile at coordinates `L`, every index within the table: from what the launch hands it, the program
    ends with the tile's block of the output at `lookup ft fi`, the index row, the table's share, the scratch buffers
    and the semaphores as they were. -/
theorem tile_body (hF : (K (F := F)).Facts) (fi : Buf (Elt F) (iLoc d)) (ft : Buf (Elt F) (tLoc d)) (fz : Buf (Elt F) (oLoc d))
    (hfi : ∀ x : S32x4x128.Idx, (fi x : BitVec 32).toNat < 1000000)
    (O : CellTallies nD τ sig (HIx 1)) (W : Waits sig (HIx 1)) (hO : ∀ g, O g none = 0) :
    iprop(levAts (K (F := F)).L (K (F := F)).lev ∗ emp ∗ goPay d fi ft fz (tileNo L)
        ∗ scopedBufs (thr d L) ∗ scopedSems0 (thr d L) ∗ owes (thr d L) O W)
      ⊢ wp frame (wpE (defs₀ (F := F)) 𝒱₀ (thr d L) none) Set.univ (task L)
          fun _ => iprop(goPay d fi ft (lookup ft fi) (tileNo L) ∗ scopedBufs (thr d L) ∗ scopedSems0 (thr d L)
            ∗ ∃ W', ⌜∀ p ∈ W', p ∈ W ∨ p.2 = none⌝ ∗ owes (thr d L) O W') := by
  unfold task
  rw [(K (F := F)).scopedBufs_V hF d (cV L) (jV L), SparseCore.Cfg.scopedSems0_V (Val := Elt F) d (cV L) (jV L), ownSems0_tile, ownBufs_tile]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  icases Hmw with #Hmw
  iapply (wp_fetch d L fi fs) $$ [Hi Hs HsemA HO]
  · isplitr; · iexact Hmw
    isplitl [Hi]; · iexact Hi
    isplitl [Hs]; · iexact Hs
    isplitl [HsemA]; · iexact HsemA
    iexact HO
  iintro ⟨Hi, Hs, HsemA, HO⟩
  iapply (wp_gathers d L ft fr (lists fi (tileNo L)) (tq (tileNo L)) (lists_lt hfi (tileNo L))) $$ [Hr Ht Hs HsemG HO]
  · isplitr; · iexact Hmw
    isplitl [Hr Ht Hs]
    · isplitl [Hr]; · iexact Hr
      isplitl [Ht]; · iexact Ht
      iexact Hs
    isplitl [HsemG]; · iexact HsemG
    iexact HO
  iintro ⟨⟨Hr, Ht, Hs⟩, HsemG, HO⟩
  unfold writeOut
  ihave Ho' := (Entails.of_eq (show (oRowPts d fz (tileNo L) : sProp 𝕄) = ((oRowK L).view.loc (thr d L) ↦[(oRowK L).view.set]{fullShare} fz) by rw [set_oRowK])) $$ Ho
  ihave Hr' := (Entails.of_eq (show ((thr d L).loc cc0_scratch1 ↦{fullShare} rowsOf ft (lists fi (tileNo L)) : sProp 𝕄)
    = (rV.view.loc (thr d L) ↦{fullShare} rowsOf ft (lists fi (tileNo L))) from rfl)) $$ Hr
  sl_exec
  have hout : ((oRowK L).view.loc (thr d L) ↦[(oRowK L).view.set]{fullShare}
        (oRowK L).view.writes (Elt F) fz [⟨Rect.whole S4x128x16, tile_body.sl.dma0 d L fi ft⟩] : sProp 𝕄) = oRowPts d (lookup ft fi) (tileNo L) := by
    have hpay : tile_body.sl.dma0 d L fi ft = rowsOf ft (lists fi (tileNo L)) :=
      (show _ = rV.view.read (Elt F) (rowsOf ft (lists fi (tileNo L))) from rfl).trans (View.read_whole _ _)
    rw [← View.write_univ_eq_writes_whole (oRowK L).view fz [] (tile_body.sl.dma0 d L fi ft), hpay, View.writes_nil,
      pointsTo_congr fun x hx => written L ft fi fz x hx, set_oRowK]
  sl_step
  isplitl [Hi Ht Ho']
  · isplitl [Hi]; · iexact Hi
    isplitl [Ht]; · iexact Ht
    iapply (Entails.of_eq hout); iexact Ho'
  isplitl [Hs Hr' Hbufs]
  · isplitl [Hs]; · iexists _; iexact Hs
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

end Task

end Cert.Proof.Tile

end
-- ==== Proof.Launch.lean ====
/-
  THE WHOLE RUN, at any float values.

  The launch hands each of the 32 tiles its row of the index array, its share of the table and its block of the output;
  `obligation` is one tile's part of it (Tile.lean's `tile_body` at that tile's coordinates). On the TensorCore the index
  array is reshaped, the call runs, and the rows gathered are reshaped into the result. `run_main` says how the run ends:
  the result holds `result` of the arguments, the three arguments are as they were, and every semaphore is at zero.
-/
module

public import proofs.«01_k».proof.Proof.Tile

@[expose] public section

noncomputable section

namespace Cert.Proof.Launch

open Cert.KernelIdeal Cert.KernelIdeal.Gen
open Cert.Proof.Windows Cert.Proof.Tile
open Idealize.ShloMosaic
open Idealize.ShloMosaic.StableHlo (wp_hlo_within held)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The values -/

/-- The index array the tiles read: the users, reshaped. -/
def idx (d : Dev nD) : S32x4x128.Idx → Elt F .i32 := shapeCast S32x4x128 (m (uLoc d)) shapeCasts_S16384_S32x4x128

/-- The result: the rows the users name, reshaped back. -/
def result (d : Dev nD) : S16384x16.Idx → Elt F .f32 :=
  shapeCast S16384x16 (lookup (m (tLoc d)) (idx m d)) shapeCasts_S32x4x128x16_S16384x16

/-- What is asked of the launch memory: every user is a row of the table. -/
def UsersOK : Prop := ∀ (d : Dev nD) (y : S16384.Idx), (m (uLoc d) y : BitVec 32).toNat < 1000000

variable {m} in
theorem UsersOK.idx (h : UsersOK m) (d : Dev nD) (x : S32x4x128.Idx) : (idx m d x : BitVec 32).toNat < 1000000 := h d _

variable [FloatOps F]

/-! ## What the launch hands each tile, and takes back -/

/-- The number of the tile that SparseCore `c` runs on subcore `i`. -/
def tileOf (c : Fin 2) (i : Fin 16) : Fin 32 := ⟨2 * i.val + c.val, by omega⟩

/-- A tile's part of the arrays, its block of the output at `fz`. -/
abbrev part (d : Dev nD) (fz : Buf (Elt F) (oLoc d)) (c : Fin 2) (i : Fin 16) : sProp 𝕄 :=
  goPay d (idx m d) (m (tLoc d)) fz (tileOf c i)

/-- A SparseCore's part: its tiles' parts. -/
abbrev half (d : Dev nD) (fz : Buf (Elt F) (oLoc d)) (c : Fin 2) : sProp 𝕄 := bigSep Finset.univ fun i : Fin 16 => part m d fz c i

def P : (K (F := F)).Pay (nD := nD) (Val := Elt F) (Name := ℕ) (U := UU) where
  st := fun q d c => match q with | 0 => half m d (m (oLoc d)) (Fin.cast nCore_zero c)
  dn := fun q d c => match q with | 0 => half m d (lookup (m (tLoc d)) (idx m d)) (Fin.cast nCore_zero c)
  go := fun q d c i => match q with | 0 => part m d (m (oLoc d)) (Fin.cast nCore_zero c) (Fin.cast nSub_zero i)
  td := fun q d c i => match q with | 0 => part m d (lookup (m (tLoc d)) (idx m d)) (Fin.cast nCore_zero c) (Fin.cast nSub_zero i)
  x := fun _ _ => iprop(emp)

instance P_storable : (P (F := F) m).IsStorable where
  st q d c := match q with
    | 0 => (inferInstance : BI.Storable (upEmb : UEmb _ 𝕄) (half m d (m (oLoc d)) (Fin.cast nCore_zero c)))
  dn q d c := match q with
    | 0 => (inferInstance : BI.Storable (upEmb : UEmb _ 𝕄) (half m d (lookup (m (tLoc d)) (idx m d)) (Fin.cast nCore_zero c)))
  go q d c i := match q with
    | 0 => (inferInstance : BI.Storable (upEmb : UEmb _ 𝕄) (part m d (m (oLoc d)) (Fin.cast nCore_zero c) (Fin.cast nSub_zero i)))
  td q d c i := match q with
    | 0 => (inferInstance : BI.Storable (upEmb : UEmb _ 𝕄)
      (part m d (lookup (m (tLoc d)) (idx m d)) (Fin.cast nCore_zero c) (Fin.cast nSub_zero i)))

/-! ## One tile's part of the call -/

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 () = SparseCore.onTile hcore0 hsub0 (fun c s => task (coords c s)) ⟨⟩ c s := rfl

/-- A tile's waits, all outside the call's handshakes, are among those the call allows. -/
theorem waits_mono {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right Or.inl
  · iexact HO

set_option maxRecDepth 16384 in
theorem obligation (hpre : UsersOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coords ⟨_, hci.1⟩ ⟨_, hci.2⟩) facts (idx m d) (m (tLoc d)) (m (oLoc d)) (hpre.idx d) O W hO).trans
    (wp_mono frame _ _ fun _ => waits_mono)

/-- A SparseCore's part is handed to its tiles, and theirs are its part again. -/
theorem split : (K (F := F)).VecSplit' (P m) 0 := by
  intro d c
  show half m d (m (oLoc d)) (Fin.cast nCore_zero c) ⊢ |={Set.univ}=> iprop(half m d (m (oLoc d)) (Fin.cast nCore_zero c)
      ∗ (half m d (lookup (m (tLoc d)) (idx m d)) (Fin.cast nCore_zero c) -∗ half m d (lookup (m (tLoc d)) (idx m d)) (Fin.cast nCore_zero c)))
  iintro H; imodintro
  isplitl [H]; · iexact H
  iintro H; iexact H

/-! ## The arrays by SparseCore and tile -/

omit [FloatOps F] in
/-- A family over the tiles, by SparseCore and subcore. -/
theorem bigSep_tiles (Φ : Fin 32 → sProp 𝕄) :
    bigSep Finset.univ Φ = bigSep Finset.univ fun c : Fin 2 => bigSep Finset.univ fun i : Fin 16 => Φ (tileOf c i) := by
  rw [bigSep_univ_equiv (finProdFinEquiv (m := 16) (n := 2)) Φ, bigSep_univ_prod, BI.bigSep_univ_comm]
  refine bigSep_congr fun c _ => bigSep_congr fun i _ => congrArg Φ (Fin.ext ?_)
  show c.val + 2 * i.val = 2 * i.val + c.val
  omega

omit [FloatOps F] in
theorem idx_rows (d : Dev nD) (f : Buf (Elt F) (iLoc d)) : (iLoc d ↦{fullShare} f : sProp 𝕄) = bigSep Finset.univ fun w : Fin 32 => iRowPts d f w := by
  refine Eq.trans ?_ (pointsTo_biUnion (ℓ := iLoc d) (q := fullShare) (f := f) Finset.univ iSet (fibre_disjoint _ _))
  rw [show Finset.univ.biUnion iSet = Finset.univ from fibre_cover (fun x : S32x4x128.Idx => (x 0).val) fun x => (x 0).isLt]
omit [FloatOps F] in
theorem out_rows (d : Dev nD) (f : Buf (Elt F) (oLoc d)) : (oLoc d ↦{fullShare} f : sProp 𝕄) = bigSep Finset.univ fun w : Fin 32 => oRowPts d f w := by
  refine Eq.trans ?_ (pointsTo_biUnion (ℓ := oLoc d) (q := fullShare) (f := f) Finset.univ oSet (fibre_disjoint _ _))
  rw [show Finset.univ.biUnion oSet = Finset.univ from fibre_cover (fun x : S32x4x128x16.Idx => (x 0).val) fun x => (x 0).isLt]

omit [FloatOps F] in
theorem table_shares (d : Dev nD) (f : Buf (Elt F) (tLoc d)) : (tLoc d ↦{fullShare} f : sProp 𝕄) = bigSep Finset.univ fun w : Fin 32 => tShPts d f w :=
  pointsTo_piecesOf Finset.univ f (by decide : 0 < 32) fullShare

/-- The three arrays whole are the SparseCores' parts. -/
theorem arrays_parts (d : Dev nD) (fz : Buf (Elt F) (oLoc d)) :
    (bigSep Finset.univ fun c : Fin 2 => half m d fz c)
      = iprop((iLoc d ↦{fullShare} idx m d) ∗ (tLoc d ↦{fullShare} m (tLoc d)) ∗ oLoc d ↦{fullShare} fz) := by
  unfold half part
  rw [← bigSep_tiles (fun w => goPay d (idx m d) (m (tLoc d)) fz w), BI.bigSep_sep', BI.bigSep_sep', idx_rows, out_rows, table_shares]

theorem st0_eq (d : Dev nD) : (bigSep Finset.univ fun c : Fin ((K (F := F)).nCore 0) => (P m).st 0 d c)
    = iprop((iLoc d ↦{fullShare} idx m d) ∗ (tLoc d ↦{fullShare} m (tLoc d)) ∗ oLoc d ↦{fullShare} m (oLoc d)) := arrays_parts m d _
theorem dn0_eq (d : Dev nD) : (bigSep Finset.univ fun c : Fin ((K (F := F)).nCore 0) => (P m).dn 0 d c)
    = iprop((iLoc d ↦{fullShare} idx m d) ∗ (tLoc d ↦{fullShare} m (tLoc d)) ∗ oLoc d ↦{fullShare} lookup (m (tLoc d)) (idx m d)) := arrays_parts m d _

/-! ## The ghost state at the launch -/

def u₀ : UU := (initOf (K (F := F)).hsCells (K (F := F)).hsToks, 1)

omit [FloatOps F] in
theorem nothing_const {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_const]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_const]
  iempintro

/-! ## @main on the TensorCore -/

abbrev ref (b : Ref sig .tc) : DevRef τ sig := Proc.devRef .tc b

/-- The arrays of @main. -/
abbrev arrays : Finset (DevRef τ sig) := {ref main_arg0, ref main_arg1, ref main_arg2, ref main_v0, ref main_v1, ref main_v2}

/-- The two reshapes. -/
abbrev opIn : HloOp τ sig (Elt F) := StableHlo.reshape main_arg0 main_v0 (rfl : (.i32 : EltTy) = .i32) shapeCasts_S16384_S32x4x128
abbrev opOut : HloOp τ sig (Elt F) := StableHlo.reshape main_v1 main_v2 (rfl : (.f32 : EltTy) = .f32) shapeCasts_S32x4x128x16_S16384x16

omit [FloatOps F] in
theorem held_arrays (d : Dev nD) (W : Valuation τ sig (Elt F)) :
    (held (SparseCore.T d) arrays W : sProp 𝕄)
      = iprop((uLoc d ↦{fullShare} W (ref main_arg0)) ∗ (tLoc d ↦{fullShare} W (ref main_arg1)) ∗ (bLoc d ↦{fullShare} W (ref main_arg2))
          ∗ (iLoc d ↦{fullShare} W (ref main_v0)) ∗ (oLoc d ↦{fullShare} W (ref main_v1)) ∗ zLoc d ↦{fullShare} W (ref main_v2)) := by
  unfold held arrays
  rw [SparseCore.bigSep_insert' (by decide), SparseCore.bigSep_insert' (by decide), SparseCore.bigSep_insert' (by decide),
    SparseCore.bigSep_insert' (by decide), SparseCore.bigSep_insert' (by decide), bigSep_singleton]

/-- The arrays' contents at the launch, and between the call and the last reshape. -/
def V0 (d : Dev nD) : Valuation τ sig (Elt F) := fun b => m (d, b)
def V1 (d : Dev nD) : Valuation τ sig (Elt F) :=
  Function.update ((opIn (F := F)).result (V0 m d)) (ref main_v1) (lookup (m (tLoc d)) (idx m d))

omit [FloatOps F] in
theorem unscoped_arrays (d : Dev nD) : (unscopedBufs d (fun b => m ((SparseCore.T d).loc b)) : sProp 𝕄) = held (SparseCore.T d) arrays (V0 m d) := by
  rw [held_arrays]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem V1_other (d : Dev nD) {r : Ref sig .tc} (h1 : r ≠ main_v1) (h0 : r ≠ main_v0) : V1 m d (ref r) = m ((SparseCore.T d).loc r) :=
  (Function.update_of_ne (fun e => h1 (Proc.devRef_injective _ e)) _ _).trans (StableHlo.reshape_result_ne _ _ _ _ _ _ _ h0)
omit [FloatOps F] in
theorem V1_idx (d : Dev nD) : V1 m d (ref main_v0) = idx m d :=
  (Function.update_of_ne (show ref main_v0 ≠ ref main_v1 by decide) _ _).trans (StableHlo.reshape_result _ _ _ _ _ _ _)
omit [FloatOps F] in
theorem V1_rows (d : Dev nD) : V1 m d (ref main_v1) = lookup (m (tLoc d)) (idx m d) := Function.update_self _ _ _

omit [FloatOps F] in
/-- The arrays after the first reshape: the index array at `idx`, the others as they were. -/
theorem held_in (d : Dev nD) :
    (held (SparseCore.T d) arrays ((opIn (F := F)).result (V0 m d)) : sProp 𝕄)
      = iprop((uLoc d ↦{fullShare} m (uLoc d)) ∗ (tLoc d ↦{fullShare} m (tLoc d)) ∗ (bLoc d ↦{fullShare} m (bLoc d))
          ∗ (iLoc d ↦{fullShare} idx m d) ∗ (oLoc d ↦{fullShare} m (oLoc d)) ∗ zLoc d ↦{fullShare} m (zLoc d)) := by
  have hne : ∀ {r : Ref sig .tc}, r ≠ main_v0 → (opIn (F := F)).result (V0 m d) (ref r) = m ((SparseCore.T d).loc r) :=
    fun h => StableHlo.reshape_result_ne _ _ _ _ _ _ _ h
  rw [held_arrays, show (opIn (F := F)).result (V0 m d) (ref main_v0) = idx m d from StableHlo.reshape_result _ _ _ _ _ _ _,
    hne (by decide), hne (by decide), hne (by decide), hne (by decide), hne (by decide)]

omit [FloatOps F] in
/-- The arrays before the last reshape. -/
theorem held_mid (d : Dev nD) :
    (held (SparseCore.T d) arrays (V1 m d) : sProp 𝕄)
      = iprop((uLoc d ↦{fullShare} m (uLoc d)) ∗ (tLoc d ↦{fullShare} m (tLoc d)) ∗ (bLoc d ↦{fullShare} m (bLoc d))
          ∗ (iLoc d ↦{fullShare} idx m d) ∗ (oLoc d ↦{fullShare} lookup (m (tLoc d)) (idx m d)) ∗ zLoc d ↦{fullShare} m (zLoc d)) := by
  rw [held_arrays, V1_idx, V1_rows, V1_other m d (by decide) (by decide), V1_other m d (by decide) (by decide),
    V1_other m d (by decide) (by decide), V1_other m d (by decide) (by decide)]

omit [FloatOps F] in
/-- The arrays after it: the result at `result`. -/
theorem held_out (d : Dev nD) :
    (held (SparseCore.T d) arrays ((opOut (F := F)).result (V1 m d)) : sProp 𝕄)
      = iprop((uLoc d ↦{fullShare} m (uLoc d)) ∗ (tLoc d ↦{fullShare} m (tLoc d)) ∗ (bLoc d ↦{fullShare} m (bLoc d))
          ∗ (iLoc d ↦{fullShare} idx m d) ∗ (oLoc d ↦{fullShare} lookup (m (tLoc d)) (idx m d)) ∗ zLoc d ↦{fullShare} result m d) := by
  have hne : ∀ {r : Ref sig .tc}, r ≠ main_v2 → (opOut (F := F)).result (V1 m d) (ref r) = V1 m d (ref r) :=
    fun h => StableHlo.reshape_result_ne _ _ _ _ _ _ _ h
  have hz : (opOut (F := F)).result (V1 m d) (ref main_v2) = result m d := by
    refine (StableHlo.reshape_result _ _ _ _ _ _ _).trans ?_
    rw [V1_rows]; rfl
  rw [held_arrays, hz, hne (by decide), hne (by decide), hne (by decide), hne (by decide), hne (by decide), V1_idx, V1_rows,
    V1_other m d (by decide) (by decide), V1_other m d (by decide) (by decide), V1_other m d (by decide) (by decide)]

theorem opIn_bufs : (opIn (F := F)).bufs ⊆ arrays := show ({ref main_arg0, ref main_v0} : Finset (DevRef τ sig)) ⊆ arrays by decide
theorem opOut_bufs : (opOut (F := F)).bufs ⊆ arrays := show ({ref main_v1, ref main_v2} : Finset (DevRef τ sig)) ⊆ arrays by decide

/-- What @main leaves the claims: the result and the arguments. -/
abbrev FIN (d : Dev nD) : sProp 𝕄 :=
  iprop((uLoc d ↦{fullShare} m (uLoc d)) ∗ (tLoc d ↦{fullShare} m (tLoc d)) ∗ (bLoc d ↦{fullShare} m (bLoc d)) ∗ zLoc d ↦{fullShare} result m d)

/-- @main on device `d`: the reshape of the users, the call, the reshape of the rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opIn) (S := arrays) opIn_bufs (V := V0 m d)) $$ [Hb Hheld]
  · isplitl [Hb] <;> iassumption
  iintro ⟨Hb, Hheld⟩
  rw [wp_ret]; imodintro
  ihave Hh := (Entails.of_eq (held_in (F := F) m d)) $$ Hheld
  icases Hh with ⟨Hu, Ht, Hit, Hi, Ho, Hz⟩
  iapply ((K (F := F)).wp_run (D (F := F)) 𝒱 (EH := EH) (P := P m) κ d 0) $$ [Hst Hu Ht Hit Hi Ho Hz Hb Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opOut) (S := arrays) opOut_bufs (V := V1 m d)) $$ [Hb Hu Ht Hit Hi Ho Hz]
  · isplitl [Hb]; · iexact Hb
    rw [held_mid]
    isplitl [Hu]; · iexact Hu
    isplitl [Ht]; · iexact Ht
    isplitl [Hit]; · iexact Hit
    isplitl [Hi]; · iexact Hi
    isplitl [Ho]; · iexact Ho
    iexact Hz
  iintro ⟨Hb, Hheld⟩
  ihave Hh := (Entails.of_eq (held_out (F := F) m d)) $$ Hheld
  icases Hh with ⟨Hu, Ht, Hit, -, -, Hz⟩
  rw [wp_ret]; imodintro; imodintro
  isplitl [Hst]; · iexact Hst
  isplitr [Hb Hts]
  · isplitl [Hu]; · iexact Hu
    isplitl [Ht]; · iexact Ht
    isplitl [Hit]; · iexact Hit
    iexact Hz
  isplitl [Hb] <;> iassumption

/-! ## The run -/

/-- What is read off device `d`'s final memory. -/
def fq (d : Dev nD) (s' : Phys nD τ sig (Elt F)) : Prop :=
  s'.mem.mem (zLoc d) = result m d ∧ s'.mem.mem (uLoc d) = m (uLoc d) ∧ s'.mem.mem (tLoc d) = m (tLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  have agree : ∀ (ℓ : Loc nD τ sig) (f : Buf (Elt F) ℓ), iprop((ℓ ↦{fullShare} f) ∗ SI s') ⊢ (iprop(⌜s'.mem.mem ℓ = f⌝ ∗ SI s') : sProp 𝕄) := by
    intro ℓ f
    iintro ⟨Hp, HSI⟩
    ihave H := (persistent_entails_right (SI_pointsTo_agree (st := s') (ℓ := ℓ) (I := Finset.univ) (q := fullShare) (f := f))) $$ [HSI Hp]
    · isplitl [HSI] <;> iassumption
    icases H with ⟨%h, HSI, -⟩
    isplitr; · ipureintro; exact funext fun i => h i (Finset.mem_univ i)
    iexact HSI
  iintro ⟨⟨Hu, Ht, Hit, Hz⟩, HSI⟩
  ihave H := (agree _ _) $$ [Hu HSI]; · isplitl [Hu] <;> iassumption
  icases H with ⟨%hu, HSI⟩
  ihave H := (agree _ _) $$ [Ht HSI]; · isplitl [Ht] <;> iassumption
  icases H with ⟨%ht, HSI⟩
  ihave H := (agree _ _) $$ [Hit HSI]; · isplitl [Hit] <;> iassumption
  icases H with ⟨%hi, HSI⟩
  ihave H := (agree _ _) $$ [Hz HSI]; · isplitl [Hz] <;> iassumption
  icases H with ⟨%hz, -⟩
  ipureintro; exact ⟨hz, hu, ht, hi⟩

/-- How the run ends. -/
def Ends : PUnit × MemSt nD τ sig (Elt F) → Prop := fun r =>
  (∀ c : Dev nD, r.2.mem (zLoc c) = result m c ∧ r.2.mem (uLoc c) = m (uLoc c) ∧ r.2.mem (tLoc c) = m (tLoc c) ∧ r.2.mem (bLoc c) = m (bLoc c))
    ∧ r.2.sem = fun _ => 0

/-- THE RUN, every user a row of the table: the result holds the rows the users name, the arguments are unchanged, the
    semaphores are at zero. -/
theorem run_main [∀ e, Nonempty (Elt F e)] (hpre : UsersOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => obligation m hpre)
    (fun q _ => match q with | 0 => SparseCore.Cfg.VecSplit.of_plain (split m))
    m ρ main (fun _ => iprop(emp)) (FIN m) (u₀ (F := F)) (sep_elim_left.trans (hu₀ m)) (hmain m ρ) (fq m) (hfin m) (Ends m) (fun _ h hz => ⟨h, hz⟩)

end Cert.Proof.Launch

end
-- ==== Proof.Value.lean ====
/-
  THE TWO PROGRAMS' VALUES, at any float values, every user a row of the table.

  The reference takes the rows with the usual care for indices out of range: a negative index is wrapped, and a row whose
  index is out of range after that is filled with NaN. With every user in range neither happens (`reference_apply`). The
  kernel's result is the reshaped `lookup` of the reshaped users (`kernel_apply`). Both are, at `(n, c)`, the table's
  element at the row that user `n` names and column `c`.
-/
module

public import proofs.«01_k».proof.Proof.Windows
public import proofs.«01_k».proof.Proof.Gen.ReferenceIdeal
public import proofs.«01_k».proof.Proof.Gen.Pre_user_in_table
public import Idealize.ShloMosaic.Lib.Routing.Ops
public import Idealize.ShloMosaic.Lib.ReduceAll
public import Idealize.ShloMosaic.Lib.Affine

@[expose] public section

noncomputable section

namespace Cert.Proof.Value

open Idealize.ShloMosaic Idealize.ShloMosaic.ValueIdx
open Cert.Proof.Windows (rowOfWord lookup)
open Cert.ReferenceIdeal Cert.ReferenceIdeal.Gen

variable {F : FTy → Type} [FloatOps F]

/-! ## The precondition read at a user -/

/-- A word from 0 to below a million, read signed, is below a million read unsigned. -/
theorem toNat_lt_of_range (v : BitVec 32) (h0 : (0#32).toInt ≤ v.toInt) (h1 : v.toInt < (1000000#32).toInt) : v.toNat < 1000000 := by
  have e0 : (0#32).toInt = 0 := by decide
  have e1 : (1000000#32).toInt = 1000000 := by decide
  rw [e0, BitVec.toInt_eq_toNat_cond] at h0
  rw [e1, BitVec.toInt_eq_toNat_cond] at h1
  have := v.isLt
  split at h0 <;> split at h1 <;> omega

/-- The precondition says that every user is a row of the table. -/
theorem users_of_pre (u : IVec S16384 32) (t b : FVec F S1000000x16 .f32)
    (h : Cert.Pre_user_in_table.fn (F := F) u t b = fun _ => 1#1) (y : S16384.Idx) : (u y).toNat < 1000000 := by
  obtain ⟨h0, h1⟩ := IntOp.andi_eq_one.1
    (show IntOp.andi (IntOp.cmpi .sge (u y) 0#32) (IntOp.cmpi .slt (u y) 1000000#32) = 1#1 from congrFun h y)
  exact toNat_lt_of_range _ (IntOp.cmpi_sge.1 h0) (IntOp.cmpi_slt.1 h1)

theorem toInt_of_lt {v : BitVec 32} (h : v.toNat < 1000000) : v.toInt = v.toNat := BitVec.toInt_eq_toNat_of_lt (by omega)

/-! ## The reference -/

/-- The users with the negative ones wrapped. -/
def wrapped (u : IVec S16384 32) : IVec S16384 32 :=
  select (cmpi .slt u (broadcastInDim S16384 ![] bcast_S_S16384 (constantI S_ 32 0#32)))
    (addi u (broadcastInDim S16384 ![] bcast_S_S16384 (constantI S_ 32 1000000#32))) u

/-- The users as a column of start indices. -/
def starts (u : IVec S16384 32) : IVec S16384x1 32 := broadcastInDim S16384x1 ![0] bcast_S16384_S16384x1_0 (wrapped u)

/-- Which start indices are in range. -/
def inRange (u : IVec S16384 32) : IVec S16384x1 1 :=
  andi (cmpi .sge (starts u) (broadcastInDim S16384x1 ![] bcast_S_S16384x1 (constantI S_ 32 0#32)))
    (cmpi .sle (starts u) (broadcastInDim S16384x1 ![0, 1] bcast_S1x1_S16384x1_0_1 (broadcastInDim S1x1 ![1] bcast_S1_S1x1_1 (constantI S1 32 999999#32))))

/-- The reference's first result. -/
def reference (u : IVec S16384 32) (t : FVec F S1000000x16 .f32) : FVec F S16384x16 .f32 :=
  select (broadcastInDim S16384x16 ![0] bcast_S16384_S16384x16_0 (Host.reduce IntOp.andi (inRange u) (constantI S_ 1 1#1) reducesTo_S16384x1_S16384_d1 h_S_))
    (Host.gather gather_S1000000x16_S16384x1_S16384x16_1_0_n_n_0_1_116 t (starts u))
    (broadcastInDim S16384x16 ![] bcast_S_S16384x16 (constant S_ .f32 0x7FC00000#32))

variable {u : IVec S16384 32} (hu : ∀ y, (u y).toNat < 1000000)
include hu

/-- No user is negative, so none is wrapped. -/
theorem wrapped_eq : wrapped u = u := by
  funext y
  show (if IntOp.cmpi .slt (u y) 0#32 = 1#1 then _ else u y) = u y
  refine if_neg fun h => ?_
  have h := IntOp.cmpi_slt.1 h
  rw [toInt_of_lt (hu y), show (0#32).toInt = 0 by decide] at h
  omega

theorem starts_apply (n : Fin 16384) (z : Fin 1) : starts u (ix2 n z) = u (ix1 n) := by
  unfold starts
  rw [wrapped_eq hu]
  show u _ = _
  congr 1; funext a
  obtain rfl : a = 0 := Subsingleton.elim _ _
  rfl

/-- Every start index is in range. -/
theorem inRange_one (i : S16384x1.Idx) : inRange u i = 1#1 := by
  obtain ⟨n, z, rfl⟩ : ∃ n z, i = ix2 n z := ⟨_, _, eq_ix2 i⟩
  show IntOp.andi (IntOp.cmpi .sge (starts u (ix2 n z)) 0#32) (IntOp.cmpi .sle (starts u (ix2 n z)) 999999#32) = 1#1
  rw [starts_apply hu]
  have h := hu (ix1 n)
  refine IntOp.andi_eq_one.2 ⟨IntOp.cmpi_sge.2 ?_, IntOp.cmpi_sle.2 ?_⟩
  · rw [toInt_of_lt h, show (0#32).toInt = 0 by decide]; omega
  · rw [toInt_of_lt h, show (999999#32).toInt = 999999 by decide]; omega

/-- THE REFERENCE at `(n, c)`: the table at the row user `n` names. -/
theorem reference_apply (t : FVec F S1000000x16 .f32) (n : Fin 16384) (c : Fin 16) :
    reference u t (ix2 n c) = t (ix2 (rowOfWord (u (ix1 n))) c) := by
  have h := hu (ix1 n)
  have hm : Host.reduce IntOp.andi (inRange u) (constantI S_ 1 1#1) reducesTo_S16384x1_S16384_d1 h_S_ = fun _ => 1#1 :=
    funext fun j => Host.reduce_andi_one _ _ _ _ j rfl (inRange_one hu)
  unfold reference
  rw [hm, select_apply]
  refine (select_one _ _).trans ?_
  refine Routing.gather_row _ rfl rfl rfl rfl rfl t (starts u) n c (rowOfWord (u (ix1 n))) ?_ (by decide)
  rw [starts_apply hu]
  refine BitVec.eq_of_toNat_eq ?_
  rw [BitVec.toNat_ofNat]
  show _ = min (u (ix1 n)).toNat 999999 % 2 ^ 32
  omega

omit hu

/-! ## The kernel -/

omit [FloatOps F] in
/-- THE KERNEL at `(n, c)`: the table at the row user `n` names. The reshapes send `n` to `(n / 512, n / 128 % 4, n % 128)`
    and back. -/
theorem kernel_apply (u : IVec S16384 32) (t : S1000000x16.Idx → Elt F .f32)
    (h : Shape.ShapeCasts S16384 Cert.KernelIdeal.S32x4x128) (h' : Shape.ShapeCasts Cert.KernelIdeal.S32x4x128x16 S16384x16)
    (n : Fin 16384) (c : Fin 16) :
    shapeCast S16384x16 (lookup (F := F) t (shapeCast Cert.KernelIdeal.S32x4x128 u h)) h' (ix2 n c) = t (ix2 (rowOfWord (u (ix1 n))) c) := by
  have hn := n.isLt
  rw [shapeCast_apply _ h' (ix2 n c) (ix4 ⟨n.val / 512, by omega⟩ ⟨n.val / 128 % 4, by omega⟩ ⟨n.val % 128, by omega⟩ c) (by
    rw [Shape.rowMajor_val_four, Shape.rowMajor_val_two]
    show ((n.val / 512 * 4 + n.val / 128 % 4) * 128 + n.val % 128) * 16 + c.val = n.val * 16 + c.val
    omega)]
  show t (ix2 (rowOfWord (shapeCast Cert.KernelIdeal.S32x4x128 u h (ix3 ⟨n.val / 512, _⟩ ⟨n.val / 128 % 4, _⟩ ⟨n.val % 128, _⟩))) c) = _
  rw [shapeCast_apply u h _ (ix1 n) (by
    rw [Shape.rowMajor_val_three, Shape.rowMajor_val_one]
    show n.val = (n.val / 512 * 4 + n.val / 128 % 4) * 128 + n.val % 128
    omega)]

/-- THE VALUES AGREE: the kernel's first result is the reference's. -/
theorem kernel_eq_reference (hu : ∀ y, (u y).toNat < 1000000) (t : FVec F S1000000x16 .f32)
    (h : Shape.ShapeCasts S16384 Cert.KernelIdeal.S32x4x128) (h' : Shape.ShapeCasts Cert.KernelIdeal.S32x4x128x16 S16384x16) :
    shapeCast S16384x16 (lookup (F := F) t (shapeCast Cert.KernelIdeal.S32x4x128 u h)) h' = reference u t := by
  funext y
  obtain ⟨n, c, rfl⟩ : ∃ n c, y = ix2 n c := ⟨_, _, eq_ix2 y⟩
  rw [kernel_apply, reference_apply hu]

end Cert.Proof.Value

end
-- ==== Proof.lean ====
/-
  THE PROOF OF THE CLAIM: an embedding lookup on the SparseCores.

  The kernel and its idealization have the same text, so one run, proved at any float values (Launch.lean), gives both
  frames and the kernel's value. The reference's run is the generated one, its value read at an index in Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_user_in_table
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Launch (run_main UsersOK)

/-- The kernel over the floats' words runs, leaves its arguments and ends with every semaphore at zero. -/
theorem frame_kernel : Cert.quiescent_Kernel := fun m ρ h =>
  (θ_run Cert.KernelIdeal.defs _ _).mono (fun _ hr => ⟨fun c => (hr.1 c).2, hr.2⟩)
    (run_main (F := Bits) m ρ fun c y => Value.users_of_pre _ _ _ (h c) y)

/-- So does its idealization. -/
theorem frame_ideal : Cert.quiescent_KernelIdeal := fun m ρ h =>
  (θ_run Cert.KernelIdeal.defs _ _).mono (fun _ hr => ⟨fun c => (hr.1 c).2, hr.2⟩)
    (run_main (F := Ideal) m ρ fun c y => Value.users_of_pre _ _ _ (h c) y)

/-- So does the reference, on any users: it has no semaphore. -/
theorem frame_reference : Cert.quiescent_ReferenceIdeal := fun m ρ _ =>
  (θ_run Cert.ReferenceIdeal.defs _ _).mono (fun r hr => ⟨fun c => (hr c).2.2, sem_eq_zero_of_no_sems (by decide) r.2⟩)
    (Cert.ReferenceIdeal.Value.run (F := Ideal) m ρ)

/-- On users that are rows of the table both end with the rows the users name and the item table itself. -/
theorem value : Cert.algebraic_KernelIdeal_ReferenceIdeal := fun m g m' g' h ha => by
  refine ⟨fun c => Launch.result m c, fun c => m (Tile.bLoc c),
    (θ_run Cert.KernelIdeal.defs _ _).mono (fun _ hr c => ⟨(hr.1 c).1, (hr.1 c).2.2.2, (hr.1 c).2⟩)
      (run_main (F := Ideal) m g fun c y => Value.users_of_pre _ _ _ (h c) y),
    (θ_run Cert.ReferenceIdeal.defs _ _).mono (fun _ hr c => ⟨(hr c).1.trans ?_, (hr c).2.1.trans (ha c).2.2, (hr c).2.2⟩)
      (Cert.ReferenceIdeal.Value.run (F := Ideal) m' g')⟩
  rw [(ha c).1, (ha c).2.1]
  exact (Value.kernel_eq_reference (F := Ideal) (Value.users_of_pre _ _ _ (h c)) _ _ _).symm

theorem claim : Cert.Claim :=
  ⟨Cert.Kernel.Gen.facts, Cert.KernelIdeal.Gen.facts, Cert.ReferenceIdeal.Gen.facts, Cert.Pre_user_in_table.Gen.facts,
    frame_kernel, frame_ideal, frame_reference, fun m ρ _ => frame_reference m ρ trivial, trivial, value⟩

end Cert.Proof

end
